-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_real [hPre_real : Cert.Pre_real.Facts] (m : (ℓ : Loc Cert.MixInIdeal.nD Cert.MixInIdeal.τ Cert.MixInIdeal.sig) → Buf (Elt Ideal) ℓ) : Prop :=
  ∀ c : Dev Cert.MixInIdeal.nD,
    (Cert.Pre_real.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_real [hPre_real : Cert.Pre_real.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_real.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6))
      ∧ r.2.sem = fun _ => 0)

def quiescent_MixInIdeal_pre_real [hMixInIdeal : Cert.MixInIdeal.Facts] [hPre_real : Cert.Pre_real.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_real m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6))
      ∧ r.2.sem = fun _ => 0)

def quiescent_MixInRefIdeal_pre_real [hMixInRefIdeal : Cert.MixInRefIdeal.Facts] [hPre_real : Cert.Pre_real.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_real m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6))
      ∧ r.2.sem = fun _ => 0)

def preserves_Kernel_KernelIdeal : Prop :=
  IdealRules.named_const.Statement Cert.KernelIdeal.κ "mask" .f32 0xF149F2CA#32 ⊥

def preserves_Ffn_FfnIdeal : Prop :=
  True

def preserves_MixOut_MixOutIdeal : Prop :=
  True

def preserves_FinalNorm_FinalNormIdeal : Prop :=
  True

def preserves_MixIn_MixInIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v8) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v2)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v2) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def algebraic_MixInIdeal_MixInRefIdeal_pre_real [hMixInIdeal : Cert.MixInIdeal.Facts] [hMixInRefIdeal : Cert.MixInRefIdeal.Facts] [hPre_real : Cert.Pre_real.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_real m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)) →
    ∃ (v0 : (c : Dev Cert.MixInIdeal.nD) → Buf (Elt Ideal) ((c.tc : Thread Cert.MixInIdeal.nD Cert.MixInIdeal.τ).loc Cert.MixInIdeal.main_v28_0)) (v1 : (c : Dev Cert.MixInIdeal.nD) → Buf (Elt Ideal) ((c.tc : Thread Cert.MixInIdeal.nD Cert.MixInIdeal.τ).loc Cert.MixInIdeal.main_v28_1)) (v2 : (c : Dev Cert.MixInIdeal.nD) → Buf (Elt Ideal) ((c.tc : Thread Cert.MixInIdeal.nD Cert.MixInIdeal.τ).loc Cert.MixInIdeal.main_v28_2)) (v3 : (c : Dev Cert.MixInIdeal.nD) → Buf (Elt Ideal) ((c.tc : Thread Cert.MixInIdeal.nD Cert.MixInIdeal.τ).loc Cert.MixInIdeal.main_v28_3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v28_0) = v0 c
          ∧ r.2.mem ((c.tc : Thread Cert.MixInIdeal.nD Cert.MixInIdeal.τ).loc Cert.MixInIdeal.main_v28_1) = v1 c
          ∧ r.2.mem ((c.tc : Thread Cert.MixInIdeal.nD Cert.MixInIdeal.τ).loc Cert.MixInIdeal.main_v28_2) = v2 c
          ∧ r.2.mem ((c.tc : Thread Cert.MixInIdeal.nD Cert.MixInIdeal.τ).loc Cert.MixInIdeal.main_v28_3) = v3 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v196) = v0 c
          ∧ r.2.mem ((c.tc : Thread Cert.MixInRefIdeal.nD Cert.MixInRefIdeal.τ).loc Cert.MixInRefIdeal.main_v198) = v1 c
          ∧ r.2.mem ((c.tc : Thread Cert.MixInRefIdeal.nD Cert.MixInRefIdeal.τ).loc Cert.MixInRefIdeal.main_v200) = v2 c
          ∧ r.2.mem ((c.tc : Thread Cert.MixInRefIdeal.nD Cert.MixInRefIdeal.τ).loc Cert.MixInRefIdeal.main_v202) = v3 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMixOut : Cert.MixOut.Facts) (hMixOutIdeal : Cert.MixOutIdeal.Facts) (hMixOutRefIdeal : Cert.MixOutRefIdeal.Facts) (hFinalNorm : Cert.FinalNorm.Facts) (hFinalNormIdeal : Cert.FinalNormIdeal.Facts) (hFinalNormRefIdeal : Cert.FinalNormRefIdeal.Facts) (hMixIn : Cert.MixIn.Facts) (hMixInIdeal : Cert.MixInIdeal.Facts) (hMixInRefIdeal : Cert.MixInRefIdeal.Facts) (hPre_finite : Cert.Pre_finite.Facts) (hPre_real : Cert.Pre_real.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_MixIn (hMixIn := hMixIn)
    ∧ quiescent_MixInIdeal (hMixInIdeal := hMixInIdeal)
    ∧ quiescent_MixInIdeal_pre_real (hMixInIdeal := hMixInIdeal) (hPre_real := hPre_real)
    ∧ quiescent_MixInRefIdeal (hMixInRefIdeal := hMixInRefIdeal)
    ∧ quiescent_MixInRefIdeal_pre_real (hMixInRefIdeal := hMixInRefIdeal) (hPre_real := hPre_real)
    ∧ preserves_Kernel_KernelIdeal
    ∧ preserves_Ffn_FfnIdeal
    ∧ preserves_MixOut_MixOutIdeal
    ∧ preserves_FinalNorm_FinalNormIdeal
    ∧ preserves_MixIn_MixInIdeal
    ∧ algebraic_KernelIdeal_ReferenceIdeal_pre_finite (hKernelIdeal := hKernelIdeal) (hReferenceIdeal := hReferenceIdeal) (hPre_finite := hPre_finite)
    ∧ algebraic_FfnIdeal_FfnRefIdeal (hFfnIdeal := hFfnIdeal) (hFfnRefIdeal := hFfnRefIdeal)
    ∧ algebraic_MixOutIdeal_MixOutRefIdeal (hMixOutIdeal := hMixOutIdeal) (hMixOutRefIdeal := hMixOutRefIdeal)
    ∧ algebraic_FinalNormIdeal_FinalNormRefIdeal (hFinalNormIdeal := hFinalNormIdeal) (hFinalNormRefIdeal := hFinalNormRefIdeal)
    ∧ algebraic_MixInIdeal_MixInRefIdeal_pre_real (hMixInIdeal := hMixInIdeal) (hMixInRefIdeal := hMixInRefIdeal) (hPre_real := hPre_real)
-- ==== Pre_finite.lean ====
abbrev S65536x512 : Shape := ⟨2, ![65536, 512]⟩
abbrev S65536x1024 : Shape := ⟨2, ![65536, 1024]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x1024 : S_.BroadcastsInDim S65536x1024 (![] : Fin 0 → Fin S65536x1024.rank)
  reducesTo_S65536x1024_S_d0_1 : S65536x1024.ReducesTo [0, 1] S_

variable [Facts]

def fn {F : FTy → Type} [FloatOps F] (main_arg0 : FVec F S65536x512 .bf16) (main_arg1 : FVec F S65536x1024 .bf16) (main_arg2 : FVec F S65536x512 .bf16) : IVec S_ 1 :=
  let main_v0 : FVec F S65536x512 .bf16 := Host.absf main_arg0
  let main_cst : FVec F S_ .bf16 := constant S_ .bf16 0x7F80#16
  let main_v1 : FVec F S65536x512 .bf16 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x1024 .bf16 := Host.absf main_arg1
  let main_cst_0 : FVec F S_ .bf16 := constant S_ .bf16 0x7F80#16
  let main_v5 : FVec F S65536x1024 .bf16 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S65536x512 .bf16 := Host.absf main_arg2
  let main_cst_2 : FVec F S_ .bf16 := constant S_ .bf16 0x7F80#16
  let main_v10 : FVec F S65536x512 .bf16 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  main_v13
-- ==== Pre_real.lean ====
abbrev S32x2048x1024 : Shape := ⟨3, ![32, 2048, 1024]⟩
abbrev S4x1024 : Shape := ⟨2, ![4, 1024]⟩
abbrev S4x1024x2568 : Shape := ⟨3, ![4, 1024, 2568]⟩
abbrev S4x8 : Shape := ⟨2, ![4, 8]⟩
abbrev S4x4x64x64 : Shape := ⟨4, ![4, 4, 64, 64]⟩
abbrev S4x256 : Shape := ⟨2, ![4, 256]⟩
abbrev S4x3x256 : Shape := ⟨3, ![4, 3, 256]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S4x1024x2568 : S_.BroadcastsInDim S4x1024x2568 (![] : Fin 0 → Fin S4x1024x2568.rank)
  reducesTo_S4x1024x2568_S_d0_1_2 : S4x1024x2568.ReducesTo [0, 1, 2] S_
  bcast_S_S4x8 : S_.BroadcastsInDim S4x8 (![] : Fin 0 → Fin S4x8.rank)
  reducesTo_S4x8_S_d0_1 : S4x8.ReducesTo [0, 1] S_

variable [Facts]

def fn_part1 {F : FTy → Type} [FloatOps F] (main_v13 : IVec S_ 1) (main_v16 : IVec S4x8 1) : IVec S_ 1 :=
  let main_c_5 : IVec S_ 1 := constantI S_ 1 1#1
  let main_v17 : IVec S_ 1 := (fun x v => Host.reduce IntOp.andi x v reducesTo_S4x8_S_d0_1 h_S_) main_v16 main_c_5
  let main_v18 : IVec S_ 1 := andi main_v13 main_v17
  main_v18

def fn {F : FTy → Type} [FloatOps F] (main_arg0 : FVec F S32x2048x1024 .f32) (main_arg1 : FVec F S4x1024 .f32) (main_arg2 : FVec F S4x1024x2568 .f32) (main_arg3 : FVec F S4x8 .f32) (main_arg4 : FVec F S4x4x64x64 .f32) (main_arg5 : FVec F S4x256 .f32) (main_arg6 : FVec F S4x3x256 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4x1024x2568 .f32 := Host.absf main_arg2
  let main_cst_2 : FVec F S_ .f32 := constant S_ .f32 0x7F800000#32
  let main_v10 : FVec F S4x1024x2568 .f32 := broadcastInDim S4x1024x2568 ![] bcast_S_S4x1024x2568 main_cst_2
  let main_v11 : IVec S4x1024x2568 1 := cmpf .olt main_v9 main_v10
  let main_c_3 : IVec S_ 1 := constantI S_ 1 1#1
  let main_v12 : IVec S_ 1 := (fun x v => Host.reduce IntOp.andi x v reducesTo_S4x1024x2568_S_d0_1_2 h_S_) main_v11 main_c_3
  let main_v13 : IVec S_ 1 := andi main_v8 main_v12
  let main_v14 : FVec F S4x8 .f32 := Host.absf main_arg3
  let main_cst_4 : FVec F S_ .f32 := constant S_ .f32 0x7F800000#32
  let main_v15 : FVec F S4x8 .f32 := broadcastInDim S4x8 ![] bcast_S_S4x8 main_cst_4
  let main_v16 : IVec S4x8 1 := cmpf .olt main_v14 main_v15
  fn_part1 (F := F) main_v13 main_v16
-- ==== Kernel.lean ====
abbrev S65536x512 : Shape := ⟨2, ![65536, 512]⟩
abbrev S65536x1024 : Shape := ⟨2, ![65536, 1024]⟩
abbrev S2048x128 : Shape := ⟨2, ![2048, 128]⟩
abbrev S2048x256 : Shape := ⟨2, ![2048, 256]⟩
abbrev S2x80x2048 : Shape := ⟨3, ![2, 80, 2048]⟩
abbrev S128x2048 : Shape := ⟨2, ![128, 2048]⟩
abbrev S16x2048 : Shape := ⟨2, ![16, 2048]⟩
abbrev S64x2048 : Shape := ⟨2, ![64, 2048]⟩
abbrev S1x64x2048 : Shape := ⟨3, ![1, 64, 2048]⟩
abbrev S1x16x2048 : Shape := ⟨3, ![1, 16, 2048]⟩
abbrev S128x256 : Shape := ⟨2, ![128, 256]⟩
abbrev S256x512 : Shape := ⟨2, ![256, 512]⟩
abbrev S64x256 : Shape := ⟨2, ![64, 256]⟩
abbrev S256x128 : Shape := ⟨2, ![256, 128]⟩
abbrev S256x256 : Shape := ⟨2, ![256, 256]⟩
abbrev S512x256 : Shape := ⟨2, ![512, 256]⟩
abbrev S512x512 : Shape := ⟨2, ![512, 512]⟩
abbrev S768x256 : Shape := ⟨2, ![768, 256]⟩
abbrev S768x512 : Shape := ⟨2, ![768, 512]⟩
abbrev S512 : Shape := ⟨1, ![512]⟩
abbrev S1x512 : Shape := ⟨2, ![1, 512]⟩
abbrev S1x80x256 : Shape := ⟨3, ![1, 80, 256]⟩
abbrev S80x256 : Shape := ⟨2, ![80, 256]⟩
abbrev S1x256 : Shape := ⟨2, ![1, 256]⟩
abbrev S1024x256 : Shape := ⟨2, ![1024, 256]⟩
abbrev S1024x512 : Shape := ⟨2, ![1024, 512]⟩
abbrev S1x80x512 : Shape := ⟨3, ![1, 80, 512]⟩
abbrev S80x512 : Shape := ⟨2, ![80, 512]⟩
abbrev S1280x256 : Shape := ⟨2, ![1280, 256]⟩
abbrev S1280x512 : Shape := ⟨2, ![1280, 512]⟩
abbrev S1x80x768 : Shape := ⟨3, ![1, 80, 768]⟩
abbrev S80x768 : Shape := ⟨2, ![80, 768]⟩
abbrev S1536x256 : Shape := ⟨2, ![1536, 256]⟩
abbrev S1536x512 : Shape := ⟨2, ![1536, 512]⟩
abbrev S1x80x1024 : Shape := ⟨3, ![1, 80, 1024]⟩
abbrev S80x1024 : Shape := ⟨2, ![80, 1024]⟩
abbrev S1792x256 : Shape := ⟨2, ![1792, 256]⟩
abbrev S1792x512 : Shape := ⟨2, ![1792, 512]⟩
abbrev S1x80x1280 : Shape := ⟨3, ![1, 80, 1280]⟩
abbrev S80x1280 : Shape := ⟨2, ![80, 1280]⟩
abbrev S2048x512 : Shape := ⟨2, ![2048, 512]⟩
abbrev S1x80x1536 : Shape := ⟨3, ![1, 80, 1536]⟩
abbrev S80x1536 : Shape := ⟨2, ![80, 1536]⟩
abbrev S1x80x1792 : Shape := ⟨3, ![1, 80, 1792]⟩
abbrev S80x1792 : Shape := ⟨2, ![80, 1792]⟩
abbrev S1x80x2048 : Shape := ⟨3, ![1, 80, 2048]⟩
abbrev S80x2048 : Shape := ⟨2, ![80, 2048]⟩

abbrev nBuf : Space → Nat
  | .hbm => 4
  | .vmem => 9
  | .smem => 0
  | _ => 0

abbrev bufTy : (tb : Table) → Fin (tcTables nBuf tb) → BufTy
  | .hbm, ⟨0, _⟩ => ⟨S65536x512, .bf16⟩
  | .hbm, ⟨1, _⟩ => ⟨S65536x1024, .bf16⟩
  | .hbm, ⟨2, _⟩ => ⟨S65536x512, .bf16⟩
  | .hbm, ⟨3, _⟩ => ⟨S65536x512, .bf16⟩
  | .local _ .vmem, ⟨0, _⟩ => ⟨S2048x128, .bf16⟩
  | .local _ .vmem, ⟨1, _⟩ => ⟨S2048x128, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2x80x2048, .bf16⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S65536x512 : Shape := ⟨2, ![65536, 512]⟩
abbrev S65536x1024 : Shape := ⟨2, ![65536, 1024]⟩
abbrev S32x2048x8x64 : Shape := ⟨4, ![32, 2048, 8, 64]⟩
abbrev S32x8x2048x64 : Shape := ⟨4, ![32, 8, 2048, 64]⟩
abbrev S32x2048x4x256 : Shape := ⟨4, ![32, 2048, 4, 256]⟩
abbrev S32x2048x4x128 : Shape := ⟨4, ![32, 2048, 4, 128]⟩
abbrev S32x2048x1x3 : Shape := ⟨4, ![32, 2048, 1, 3]⟩
abbrev S32x2048x3 : Shape := ⟨3, ![32, 2048, 3]⟩
abbrev S_ : Shape := ⟨0, ![]⟩
abbrev S32x2048 : Shape := ⟨2, ![32, 2048]⟩
abbrev S32x1x2048 : Shape := ⟨3, ![32, 1, 2048]⟩
abbrev S32x8x2048 : Shape := ⟨3, ![32, 8, 2048]⟩
abbrev S32x8x2048x2048 : Shape := ⟨4, ![32, 8, 2048, 2048]⟩
abbrev S32x8x1x2048 : Shape := ⟨4, ![32, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2048x1 : Shape := ⟨4, ![32, 8, 2048, 1]⟩

abbrev nBuf : Space → Nat
  | .hbm => 93
  | .vmem => 0
  | .smem => 0
  | _ => 0

abbrev bufTy : (tb : Table) → Fin (tcTables nBuf tb) → BufTy
  | .hbm, ⟨0, _⟩ => ⟨S65536x512, .bf16⟩
  | .hbm, ⟨1, _⟩ => ⟨S65536x1024, .bf16⟩
  | .hbm, ⟨2, _⟩ => ⟨S65536x512, .bf16⟩
  | .hbm, ⟨3, _⟩ => ⟨S65536x512, .f32⟩
  | .hbm, ⟨4, _⟩ => ⟨S32x2048x8x64, .f32⟩
  | .hbm, ⟨5, _⟩ => ⟨S32x8x2048x64, .f32⟩
  | .hbm, ⟨6, _⟩ => ⟨S65536x1024, .f32⟩
  | .hbm, ⟨7, _⟩ => ⟨S32x2048x4x256, .f32⟩
  | .hbm, ⟨8, _⟩ => ⟨S32x2048x4x128, .f32⟩
  | .hbm, ⟨9, _⟩ => ⟨S32x2048x8x64, .f32⟩
  | .hbm, ⟨10, _⟩ => ⟨S32x8x2048x64, .f32⟩
  | .hbm, ⟨11, _⟩ => ⟨S65536x512, .f32⟩
  | .hbm, ⟨12, _⟩ => ⟨S32x2048x8x64, .f32⟩
  | .hbm, ⟨13, _⟩ => ⟨S32x8x2048x64, .f32⟩
  | .hbm, ⟨14, _⟩ => ⟨S32x2048x1x3, .f32⟩
  | .hbm, ⟨15, _⟩ => ⟨S32x2048x3, .f32⟩
  | .hbm, ⟨16, _⟩ => ⟨S_, .f32⟩
  | .hbm, ⟨17, _⟩ => ⟨S32x2048, .f32⟩
  | .hbm, ⟨18, _⟩ => ⟨S32x2048x1x3, .f32⟩
  | .hbm, ⟨19, _⟩ => ⟨S32x2048x3, .f32⟩
  | .hbm, ⟨20, _⟩ => ⟨S_, .f32⟩
  | .hbm, ⟨21, _⟩ => ⟨S32x2048, .f32⟩
  | .hbm, ⟨22, _⟩ => ⟨S32x2048x1x3, .f32⟩
  | .hbm, ⟨23, _⟩ => ⟨S32x2048x3, .f32⟩
  | .hbm, ⟨24, _⟩ => ⟨S_, .f32⟩
  | .hbm, ⟨25, _⟩ => ⟨S32x2048, .f32⟩
  | .hbm, ⟨26, _⟩ => ⟨S32x2048x1x3, .f32⟩
  | .hbm, ⟨27, _⟩ => ⟨S32x2048x3, .f32⟩
  | .hbm, ⟨28, _⟩ => ⟨S_, .f32⟩
  | .hbm, ⟨29, _⟩ => ⟨S32x2048, .f32⟩
  | .hbm, ⟨30, _⟩ => ⟨S32x2048x1x3, .f32⟩
  | .hbm, ⟨31, _⟩ => ⟨S32x2048x3, .f32⟩
  | .hbm, ⟨32, _⟩ => ⟨S_, .f32⟩
  | .hbm, ⟨33, _⟩ => ⟨S32x2048, .f32⟩
  | .hbm, ⟨34, _⟩ => ⟨S32x2048x1x3, .f32⟩
  | .hbm, ⟨35, _⟩ => ⟨S32x2048x3, .f32⟩
  | .hbm, ⟨36, _⟩ => ⟨S_, .f32⟩
  | .hbm, ⟨37, _⟩ => ⟨S32x2048, .f32⟩
  | .hbm, ⟨38, _⟩ => ⟨S32x2048x1x3, .f32⟩
  | .hbm, ⟨39, _⟩ => ⟨S32x2048x3, .f32⟩
  | .hbm, ⟨40, _⟩ => ⟨S_, .f32⟩
  | .hbm, ⟨41, _⟩ => ⟨S32x2048, .f32⟩
  | .hbm, ⟨42, _⟩ => ⟨S32x2048x1x3, .f32⟩
  | .hbm, ⟨43, _⟩ => ⟨S32x2048x3, .f32⟩
  | .hbm, ⟨44, _⟩ => ⟨S_, .f32⟩
  | .hbm, ⟨45, _⟩ => ⟨S32x2048, .f32⟩
  | .hbm, ⟨46, _⟩ => ⟨S32x1x2048, .f32⟩
  | .hbm, ⟨47, _⟩ => ⟨S32x1x2048, .f32⟩
  | .hbm, ⟨48, _⟩ => ⟨S32x1x2048, .f32⟩
  | .hbm, ⟨49, _⟩ => ⟨S32x1x2048, .f32⟩
  | .hbm, ⟨50, _⟩ => ⟨S32x1x2048, .f32⟩
  | .hbm, ⟨51, _⟩ => ⟨S32x1x2048, .f32⟩
  | .hbm, ⟨52, _⟩ => ⟨S32x1x2048, .f32⟩
  | .hbm, ⟨53, _⟩ => ⟨S32x1x2048, .f32⟩
  | .hbm, ⟨54, _⟩ => ⟨S32x8x2048, .f32⟩
  | .hbm, ⟨55, _⟩ => ⟨S_, .f32⟩
  | .hbm, ⟨56, _⟩ => ⟨S_, .f32⟩
  | .hbm, ⟨57, _⟩ => ⟨S32x8x2048x2048, .f32⟩
  | .hbm, ⟨58, _⟩ => ⟨S32x8x1x2048, .f32⟩
  | .hbm, ⟨59, _⟩ => ⟨S32x8x2048x2048, .f32⟩
  | .hbm, ⟨60, _⟩ => ⟨S32x8x2048x2048, .f32⟩
  | .hbm, ⟨61, _⟩ => ⟨S32x8x2048x2048, .f32⟩
  | .hbm, ⟨62, _⟩ => ⟨S32x8x2048x2048, .f32⟩
  | .hbm, ⟨63, _⟩ => ⟨S2048, .i32⟩
  | .hbm, ⟨64, _⟩ => ⟨S1x2048, .i32⟩
  | .hbm, ⟨65, _⟩ => ⟨S2048, .i32⟩
  | .hbm, ⟨66, _⟩ => ⟨S2048x1, .i32⟩
  | .hbm, ⟨67, _⟩ => ⟨S2048x2048, .i32⟩
  | .hbm, ⟨68, _⟩ => ⟨S2048x2048, .i32⟩
  | .hbm, ⟨69, _⟩ => ⟨S2048x2048, .i1⟩
  | .hbm, ⟨70, _⟩ => ⟨S_, .f32⟩
  | .hbm, ⟨71, _⟩ => ⟨S_, .f32⟩
  | .hbm, ⟨72, _⟩ => ⟨S32x8x2048x2048, .i1⟩
  | .hbm, ⟨73, _⟩ => ⟨S32x8x2048x2048, .f32⟩
  | .hbm, ⟨74, _⟩ => ⟨S32x8x2048x2048, .f32⟩
  | .hbm, ⟨75, _⟩ => ⟨S_, .f32⟩
  | .hbm, ⟨76, _⟩ => ⟨S32x8x2048, .f32⟩
  | .hbm, ⟨77, _⟩ => ⟨S_, .f32⟩
  | .hbm, ⟨78, _⟩ => ⟨S32x8x2048, .f32⟩
  | .hbm, ⟨79, _⟩ => ⟨S32x8x2048, .f32⟩
  | .hbm, ⟨80, _⟩ => ⟨S32x8x2048x1, .f32⟩
  | .hbm, ⟨81, _⟩ => ⟨S32x8x2048x2048, .f32⟩
  | .hbm, ⟨82, _⟩ => ⟨S32x8x2048x2048, .f32⟩
  | .hbm, ⟨83, _⟩ => ⟨S32x8x2048x2048, .f32⟩
  | .hbm, ⟨84, _⟩ => ⟨S_, .f32⟩
  | .hbm, ⟨85, _⟩ => ⟨S32x8x2048, .f32⟩
  | .hbm, ⟨86, _⟩ => ⟨S32x8x2048x1, .f32⟩
  | .hbm, ⟨87, _⟩ => ⟨S32x8x2048x2048, .f32⟩
  | .hbm, ⟨88, _⟩ => ⟨S32x8x2048x2048, .f32⟩
  | .hbm, ⟨89, _⟩ => ⟨S32x8x2048x64, .f32⟩
  | .hbm, ⟨90, _⟩ => ⟨S32x2048x8x64, .f32⟩
  | .hbm, ⟨91, _⟩ => ⟨S65536x512, .f32⟩
  | .hbm, ⟨92, _⟩ => ⟨S65536x512, .bf16⟩
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_8 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Ffn.lean ====
abbrev S32x2048x1024 : Shape := ⟨3, ![32, 2048, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S65536x1024 : Shape := ⟨2, ![65536, 1024]⟩
abbrev S4x1x1024 : Shape := ⟨3, ![4, 1, 1024]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 9
  | .vmem => 7
  | .smem => 0
  | _ => 0

abbrev bufTy : (tb : Table) → Fin (tcTables nBuf tb) → BufTy
  | .hbm, ⟨0, _⟩ => ⟨S32x2048x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S65536x1024, .f32⟩
  | .hbm, ⟨5, _⟩ => ⟨S4x1x1024, .f32⟩
  | .hbm, ⟨6, _⟩ => ⟨S4x1024x5632, .bf16⟩
  | .hbm, ⟨7, _⟩ => ⟨S4x2816x1024, .bf16⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S512x1024, .f32⟩
  | .local _ .vmem, ⟨6, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S32x2048x1024 : Shape := ⟨3, ![32, 2048, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32x2048x5632 : Shape := ⟨3, ![32, 2048, 5632]⟩
abbrev S32x2048x2816 : Shape := ⟨3, ![32, 2048, 2816]⟩
abbrev S65536x1024 : Shape := ⟨2, ![65536, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S1x1024x5632, .f32⟩
  | .hbm, ⟨23, _⟩ => ⟨S1024x5632, .f32⟩
  | .hbm, ⟨24, _⟩ => ⟨S1x2816x1024, .f32⟩
  | .hbm, ⟨25, _⟩ => ⟨S2816x1024, .f32⟩
  | .hbm, ⟨26, _⟩ => ⟨S32x2048x5632, .f32⟩
  | .hbm, ⟨27, _⟩ => ⟨S32x2048x2816, .f32⟩
  | .hbm, ⟨28, _⟩ => ⟨S32x2048x2816, .f32⟩
  | .hbm, ⟨29, _⟩ => ⟨S32x2048x2816, .f32⟩
  | .hbm, ⟨30, _⟩ => ⟨S32x2048x2816, .f32⟩
  | .hbm, ⟨31, _⟩ => ⟨S_, .f32⟩
  | .hbm, ⟨32, _⟩ => ⟨S32x2048x2816, .f32⟩
  | .hbm, ⟨33, _⟩ => ⟨S32x2048x2816, .f32⟩
  | .hbm, ⟨34, _⟩ => ⟨S_, .f32⟩
  | .hbm, ⟨35, _⟩ => ⟨S32x2048x2816, .f32⟩
  | .hbm, ⟨36, _⟩ => ⟨S32x2048x2816, .f32⟩
  | .hbm, ⟨37, _⟩ => ⟨S32x2048x2816, .f32⟩
  | .hbm, ⟨38, _⟩ => ⟨S32x2048x2816, .f32⟩
  | .hbm, ⟨39, _⟩ => ⟨S32x2048x1024, .f32⟩
  | .hbm, ⟨40, _⟩ => ⟨S_, .f32⟩
  | .hbm, ⟨41, _⟩ => ⟨S32x2048x1024, .f32⟩
  | .hbm, ⟨42, _⟩ => ⟨S32x2048x1024, .f32⟩
  | .hbm, ⟨43, _⟩ => ⟨S32x2048x1024, .f32⟩
  | .hbm, ⟨44, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== MixOut.lean ====
abbrev S32x2048x1024 : Shape := ⟨3, ![32, 2048, 1024]⟩
abbrev S65536x512 : Shape := ⟨2, ![65536, 512]⟩
abbrev S4x1024x1024 : Shape := ⟨3, ![4, 1024, 1024]⟩
abbrev S65536x1024 : Shape := ⟨2, ![65536, 1024]⟩
abbrev S1024x1024 : Shape := ⟨2, ![1024, 1024]⟩
abbrev S1024x512 : Shape := ⟨2, ![1024, 512]⟩
abbrev S1x1024x1024 : Shape := ⟨3, ![1, 1024, 1024]⟩
abbrev S1x512x1024 : Shape := ⟨3, ![1, 512, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S65536x512, .bf16⟩
  | .hbm, ⟨2, _⟩ => ⟨S65536x512, .bf16⟩
  | .hbm, ⟨3, _⟩ => ⟨S4x1024x1024, .f32⟩
  | .hbm, ⟨4, _⟩ => ⟨S65536x1024, .f32⟩
  | .hbm, ⟨5, _⟩ => ⟨S4x1024x1024, .bf16⟩
  | .hbm, ⟨6, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixOutRefIdeal.lean ====
abbrev S32x2048x1024 : Shape := ⟨3, ![32, 2048, 1024]⟩
abbrev S65536x512 : Shape := ⟨2, ![65536, 512]⟩
abbrev S4x1024x1024 : Shape := ⟨3, ![4, 1024, 1024]⟩
abbrev S65536x1024 : Shape := ⟨2, ![65536, 1024]⟩
abbrev S1x1024x1024 : Shape := ⟨3, ![1, 1024, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x512, .bf16⟩
  | .hbm, ⟨2, _⟩ => ⟨S65536x512, .bf16⟩
  | .hbm, ⟨3, _⟩ => ⟨S4x1024x1024, .f32⟩
  | .hbm, ⟨4, _⟩ => ⟨S65536x512, .f32⟩
  | .hbm, ⟨5, _⟩ => ⟨S65536x512, .f32⟩
  | .hbm, ⟨6, _⟩ => ⟨S65536x1024, .f32⟩
  | .hbm, ⟨7, _⟩ => ⟨S32x2048x1024, .f32⟩
  | .hbm, ⟨8, _⟩ => ⟨S1x1024x1024, .f32⟩
  | .hbm, ⟨9, _⟩ => ⟨S1024x1024, .f32⟩
  | .hbm, ⟨10, _⟩ => ⟨S32x2048x1024, .f32⟩
  | .hbm, ⟨11, _⟩ => ⟨S32x2048x1024, .f32⟩
  | .hbm, ⟨12, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FinalNorm.lean ====
abbrev S32x2048x1024 : Shape := ⟨3, ![32, 2048, 1024]⟩
abbrev S1024 : Shape := ⟨1, ![1024]⟩
abbrev S65536x1024 : Shape := ⟨2, ![65536, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S65536x1024, .f32⟩
  | .hbm, ⟨3, _⟩ => ⟨S1x1024, .f32⟩
  | .hbm, ⟨4, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S32x2048x1024 : Shape := ⟨3, ![32, 2048, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S65536x1024 : Shape := ⟨2, ![65536, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S32x2048x1024, .f32⟩
  | .hbm, ⟨3, _⟩ => ⟨S_, .f32⟩
  | .hbm, ⟨4, _⟩ => ⟨S32x2048, .f32⟩
  | .hbm, ⟨5, _⟩ => ⟨S32x2048x1, .f32⟩
  | .hbm, ⟨6, _⟩ => ⟨S_, .f32⟩
  | .hbm, ⟨7, _⟩ => ⟨S32x2048x1, .f32⟩
  | .hbm, ⟨8, _⟩ => ⟨S32x2048x1, .f32⟩
  | .hbm, ⟨9, _⟩ => ⟨S_, .f32⟩
  | .hbm, ⟨10, _⟩ => ⟨S32x2048x1, .f32⟩
  | .hbm, ⟨11, _⟩ => ⟨S32x2048x1, .f32⟩
  | .hbm, ⟨12, _⟩ => ⟨S32x2048x1, .f32⟩
  | .hbm, ⟨13, _⟩ => ⟨S32x2048x1024, .f32⟩
  | .hbm, ⟨14, _⟩ => ⟨S32x2048x1024, .f32⟩
  | .hbm, ⟨15, _⟩ => ⟨S1x1x1024, .f32⟩
  | .hbm, ⟨16, _⟩ => ⟨S32x2048x1024, .f32⟩
  | .hbm, ⟨17, _⟩ => ⟨S32x2048x1024, .f32⟩
  | .hbm, ⟨18, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MixIn.lean ====
abbrev S32x2048x1024 : Shape := ⟨3, ![32, 2048, 1024]⟩
abbrev S4x1024 : Shape := ⟨2, ![4, 1024]⟩
abbrev S4x1024x2568 : Shape := ⟨3, ![4, 1024, 2568]⟩
abbrev S4x8 : Shape := ⟨2, ![4, 8]⟩
abbrev S4x4x64x64 : Shape := ⟨4, ![4, 4, 64, 64]⟩
abbrev S4x256 : Shape := ⟨2, ![4, 256]⟩
abbrev S4x3x256 : Shape := ⟨3, ![4, 3, 256]⟩
abbrev S8x128 : Shape := ⟨2, ![8, 128]⟩
abbrev S65536x1024 : Shape := ⟨2, ![65536, 1024]⟩
abbrev S4x1x1024 : Shape := ⟨3, ![4, 1, 1024]⟩
abbrev S4x1024x1536 : Shape := ⟨3, ![4, 1024, 1536]⟩
abbrev S4x1024x8 : Shape := ⟨3, ![4, 1024, 8]⟩
abbrev S4x1024x8x3 : Shape := ⟨4, ![4, 1024, 8, 3]⟩
abbrev S4x1024x24 : Shape := ⟨3, ![4, 1024, 24]⟩
abbrev S_ : Shape := ⟨0, ![]⟩
abbrev S4x1024x128 : Shape := ⟨3, ![4, 1024, 128]⟩
abbrev S4x1024x1024 : Shape := ⟨3, ![4, 1024, 1024]⟩
abbrev S4x1024x2688 : Shape := ⟨3, ![4, 1024, 2688]⟩
abbrev S4x8x3 : Shape := ⟨3, ![4, 8, 3]⟩
abbrev S4x24 : Shape := ⟨2, ![4, 24]⟩
abbrev S4x128 : Shape := ⟨2, ![4, 128]⟩
abbrev S4x1x128 : Shape := ⟨3, ![4, 1, 128]⟩
abbrev S4x4 : Shape := ⟨2, ![4, 4]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x1x256 : Shape := ⟨3, ![4, 1, 256]⟩
abbrev S65536x512 : Shape := ⟨2, ![65536, 512]⟩
abbrev S512x1024 : Shape := ⟨2, ![512, 1024]⟩
abbrev S1x1x1024 : Shape := ⟨3, ![1, 1, 1024]⟩
abbrev S1x1024x2688 : Shape := ⟨3, ![1, 1024, 2688]⟩
abbrev S1x1x128 : Shape := ⟨3, ![1, 1, 128]⟩
abbrev S1x256x256 : Shape := ⟨3, ![1, 256, 256]⟩
abbrev S1x1x256 : Shape := ⟨3, ![1, 1, 256]⟩
abbrev S1x3x256 : Shape := ⟨3, ![1, 3, 256]⟩
abbrev S512x512 : Shape := ⟨2, ![512, 512]⟩
abbrev S16x256 : Shape := ⟨2, ![16, 256]⟩
abbrev S8x256 : Shape := ⟨2, ![8, 256]⟩
abbrev S1x1024 : Shape := ⟨2, ![1, 1024]⟩
abbrev S512 : Shape := ⟨1, ![512]⟩
abbrev S512x1 : Shape := ⟨2, ![512, 1]⟩
abbrev S1024x2688 : Shape := ⟨2, ![1024, 2688]⟩
abbrev S512x2688 : Shape := ⟨2, ![512, 2688]⟩
abbrev S512x128 : Shape := ⟨2, ![512, 128]⟩
abbrev S1x128 : Shape := ⟨2, ![1, 128]⟩
abbrev S512x256 : Shape := ⟨2, ![512, 256]⟩
abbrev S528x256 : Shape := ⟨2, ![528, 256]⟩
abbrev S256x256 : Shape := ⟨2, ![256, 256]⟩
abbrev S1x256 : Shape := ⟨2, ![1, 256]⟩
abbrev S520x256 : Shape := ⟨2, ![520, 256]⟩

abbrev nBuf : Space → Nat
  | .hbm => 45
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S4x1024, .f32⟩
  | .hbm, ⟨2, _⟩ => ⟨S4x1024x2568, .f32⟩
  | .hbm, ⟨3, _⟩ => ⟨S4x8, .f32⟩
  | .hbm, ⟨4, _⟩ => ⟨S4x4x64x64, .f32⟩
  | .hbm, ⟨5, _⟩ => ⟨S4x256, .f32⟩
  | .hbm, ⟨6, _⟩ => ⟨S4x3x256, .f32⟩
  | .hbm, ⟨7, _⟩ => ⟨S8x128, .f32⟩
  | .hbm, ⟨8, _⟩ => ⟨S65536x1024, .f32⟩
  | .hbm, ⟨9, _⟩ => ⟨S4x1x1024, .f32⟩
  | .hbm, ⟨10, _⟩ => ⟨S4x1024x1536, .f32⟩
  | .hbm, ⟨11, _⟩ => ⟨S4x1024x8, .f32⟩
  | .hbm, ⟨12, _⟩ => ⟨S4x1024x8x3, .f32⟩
  | .hbm, ⟨13, _⟩ => ⟨S4x1024x24, .f32⟩
  | .hbm, ⟨14, _⟩ => ⟨S_, .i32⟩
  | .hbm, ⟨15, _⟩ => ⟨S_, .f32⟩
  | .hbm, ⟨16, _⟩ => ⟨S4x1024x128, .f32⟩
  | .hbm, ⟨17, _⟩ => ⟨S4x1024x1024, .f32⟩
  | .hbm, ⟨18, _⟩ => ⟨S4x1024x2688, .f32⟩
  | .hbm, ⟨19, _⟩ => ⟨S4x1024x2688, .bf16⟩
  | .hbm, ⟨20, _⟩ => ⟨S4x8x3, .f32⟩
  | .hbm, ⟨21, _⟩ => ⟨S4x24, .f32⟩
  | .hbm, ⟨22, _⟩ => ⟨S_, .i32⟩
  | .hbm, ⟨23, _⟩ => ⟨S_, .f32⟩
  | .hbm, ⟨24, _⟩ => ⟨S4x128, .f32⟩
  | .hbm, ⟨25, _⟩ => ⟨S4x1x128, .f32⟩
  | .hbm, ⟨26, _⟩ => ⟨S4x4, .i32⟩
  | .hbm, ⟨27, _⟩ => ⟨S4x4, .i32⟩
  | .hbm, ⟨28, _⟩ => ⟨S_, .i32⟩
  | .hbm, ⟨29, _⟩ => ⟨S4x4, .i32⟩
  | .hbm, ⟨30, _⟩ => ⟨S4x4, .i32⟩
  | .hbm, ⟨31, _⟩ => ⟨S4x4, .i1⟩
  | .hbm, ⟨32, _⟩ => ⟨S4x4, .f32⟩
  | .hbm, ⟨33, _⟩ => ⟨S4x4x64x1x64, .f32⟩
  | .hbm, ⟨34, _⟩ => ⟨S1x4x1x4x1, .f32⟩
  | .hbm, ⟨35, _⟩ => ⟨S4x4x64x4x64, .f32⟩
  | .hbm, ⟨36, _⟩ => ⟨S4x4x64x4x64, .f32⟩
  | .hbm, ⟨37, _⟩ => ⟨S4x4x64x4x64, .f32⟩
  | .hbm, ⟨38, _⟩ => ⟨S4x256x256, .f32⟩
  | .hbm, ⟨39, _⟩ => ⟨S4x256x256, .bf16⟩
  | .hbm, ⟨40, _⟩ => ⟨S4x1x256, .f32⟩
  | .hbm, ⟨41, _⟩ => ⟨S65536x512, .bf16⟩
  | .hbm, ⟨42, _⟩ => ⟨S65536x1024, .bf16⟩
  | .hbm, ⟨43, _⟩ => ⟨S65536x512, .bf16⟩
  | .hbm, ⟨44, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2688, .bf16⟩
  | .local _ .vmem, ⟨4, _⟩ => ⟨S1x1x128, .f32⟩
  | .local _ .vmem, ⟨5, _⟩ => ⟨S8x128, .f32⟩
  | .local _ .vmem, ⟨6, _⟩ => ⟨S1x256x256, .bf16⟩
  | .local _ .vmem, ⟨7, _⟩ => ⟨S1x1x256, .f32⟩
  | .local _ .vmem, ⟨8, _⟩ => ⟨S1x3x256, .f32⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S8x128, .f32⟩
  | .local _ .vmem, ⟨18, _⟩ => ⟨S16x256, .f32⟩
  | .local _ .vmem, ⟨19, _⟩ => ⟨S8x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixInRefIdeal.lean ====
abbrev S32x2048x1024 : Shape := ⟨3, ![32, 2048, 1024]⟩
abbrev S4x1024 : Shape := ⟨2, ![4, 1024]⟩
abbrev S4x1024x2568 : Shape := ⟨3, ![4, 1024, 2568]⟩
abbrev S4x8 : Shape := ⟨2, ![4, 8]⟩
abbrev S4x4x64x64 : Shape := ⟨4, ![4, 4, 64, 64]⟩
abbrev S4x256 : Shape := ⟨2, ![4, 256]⟩
abbrev S4x3x256 : Shape := ⟨3, ![4, 3, 256]⟩
abbrev S1x1024 : Shape := ⟨2, ![1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1x1024x2568 : Shape := ⟨3, ![1, 1024, 2568]⟩
abbrev S1024x2568 : Shape := ⟨2, ![1024, 2568]⟩
abbrev S32x2048x2568 : Shape := ⟨3, ![32, 2048, 2568]⟩
abbrev S32x2048x512 : Shape := ⟨3, ![32, 2048, 512]⟩
abbrev S32x2048x8 : Shape := ⟨3, ![32, 2048, 8]⟩
abbrev S32x2048x256 : Shape := ⟨3, ![32, 2048, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x8 : Shape := ⟨2, ![1, 8]⟩
abbrev S8 : Shape := ⟨1, ![8]⟩
abbrev S1x1x8 : Shape := ⟨3, ![1, 1, 8]⟩
abbrev S32x8x2048 : Shape := ⟨3, ![32, 8, 2048]⟩
abbrev S32x2048x8x1 : Shape := ⟨4, ![32, 2048, 8, 1]⟩
abbrev S32x2048x8x3 : Shape := ⟨4, ![32, 2048, 8, 3]⟩
abbrev S32x2048x24 : Shape := ⟨3, ![32, 2048, 24]⟩
abbrev S32x2048x104 : Shape := ⟨3, ![32, 2048, 104]⟩
abbrev S32x2048x128 : Shape := ⟨3, ![32, 2048, 128]⟩
abbrev S32x2048x1x128 : Shape := ⟨4, ![32, 2048, 1, 128]⟩
abbrev S32x2048x4x128 : Shape := ⟨4, ![32, 2048, 4, 128]⟩
abbrev S32x2048x4x256 : Shape := ⟨4, ![32, 2048, 4, 256]⟩
abbrev S32x2048x64 : Shape := ⟨3, ![32, 2048, 64]⟩
abbrev S32x64x2048 : Shape := ⟨3, ![32, 64, 2048]⟩
abbrev S1x2048x1 : Shape := ⟨3, ![1, 2048, 1]⟩
abbrev S1x1x64x64 : Shape := ⟨4, ![1, 1, 64, 64]⟩
abbrev S64x64 : Shape := ⟨2, ![64, 64]⟩
abbrev S1x256 : Shape := ⟨2, ![1, 256]⟩
abbrev S256 : Shape := ⟨1, ![256]⟩
abbrev S1x1x256 : Shape := ⟨3, ![1, 1, 256]⟩
abbrev S32x2x256 : Shape := ⟨3, ![32, 2, 256]⟩
abbrev S32x2050x256 : Shape := ⟨3, ![32, 2050, 256]⟩
abbrev S65536x512 : Shape := ⟨2, ![65536, 512]⟩
abbrev S65536x1024 : Shape := ⟨2, ![65536, 1024]⟩

abbrev nBuf : Space → Nat
  | .hbm => 245
  | .vmem => 0
  | .smem => 0
  | _ => 0

abbrev hbmTy0_0 (i : Nat) : BufTy := match i % 128 with
  | 0 => ⟨S32x2048x1024, .f32⟩
  | 1 => ⟨S4x1024, .f32⟩
  | 2 => ⟨S4x1024x2568, .f32⟩
  | 3 => ⟨S4x8, .f32⟩
  | 4 => ⟨S4x4x64x64, .f32⟩
  | 5 => ⟨S4x256, .f32⟩
  | 6 => ⟨S4x3x256, .f32⟩
  | 7 => ⟨S1x1024, .f32⟩
  | 8 => ⟨S1024, .f32⟩
  | 9 => ⟨S32x2048x1024, .f32⟩
  | 10 => ⟨S_, .f32⟩
  | 11 => ⟨S32x2048, .f32⟩
  | 12 => ⟨S32x2048x1, .f32⟩
  | 13 => ⟨S_, .f32⟩
  | 14 => ⟨S32x2048x1, .f32⟩
  | 15 => ⟨S32x2048x1, .f32⟩
  | 16 => ⟨S_, .f32⟩
  | 17 => ⟨S32x2048x1, .f32⟩
  | 18 => ⟨S32x2048x1, .f32⟩
  | 19 => ⟨S32x2048x1, .f32⟩
  | 20 => ⟨S32x2048x1024, .f32⟩
  | 21 => ⟨S32x2048x1024, .f32⟩
  | 22 => ⟨S1x1x1024, .f32⟩
  | 23 => ⟨S32x2048x1024, .f32⟩
  | 24 => ⟨S32x2048x1024, .f32⟩
  | 25 => ⟨S1x1024x2568, .f32⟩
  | 26 => ⟨S1024x2568, .f32⟩
  | 27 => ⟨S32x2048x2568, .f32⟩
  | 28 => ⟨S32x2048x512, .f32⟩
  | 29 => ⟨S32x2048x512, .f32⟩
  | 30 => ⟨S32x2048x512, .f32⟩
  | 31 => ⟨S32x2048x8, .f32⟩
  | 32 => ⟨S32x2048x256, .f32⟩
  | 33 => ⟨S32x2048x256, .f32⟩
  | 34 => ⟨S32x2048x256, .f32⟩
  | 35 => ⟨S32x2048x256, .f32⟩
  | 36 => ⟨S2048, .i32⟩
  | 37 => ⟨S2048x1, .i32⟩
  | 38 => ⟨S2048, .i32⟩
  | 39 => ⟨S1x2048, .i32⟩
  | 40 => ⟨S2048x2048, .i32⟩
  | 41 => ⟨S2048x2048, .i32⟩
  | 42 => ⟨S2048x2048, .i1⟩
  | 43 => ⟨S2048x2048, .f32⟩
  | 44 => ⟨S1x8, .f32⟩
  | 45 => ⟨S8, .f32⟩
  | 46 => ⟨S1x1x8, .f32⟩
  | 47 => ⟨S32x2048x8, .f32⟩
  | 48 => ⟨S32x2048x8, .f32⟩
  | 49 => ⟨S32x2048x8, .f32⟩
  | 50 => ⟨S_, .f32⟩
  | 51 => ⟨S32x2048x8, .f32⟩
  | 52 => ⟨S32x2048x8, .f32⟩
  | 53 => ⟨S32x2048x8, .f32⟩
  | 54 => ⟨S32x2048x8, .f32⟩
  | 55 => ⟨S32x2048x8, .i1⟩
  | 56 => ⟨S32x2048x8, .f32⟩
  | 57 => ⟨S32x2048x8, .f32⟩
  | 58 => ⟨S32x2048x8, .f32⟩
  | 59 => ⟨S32x2048x8, .f32⟩
  | 60 => ⟨S32x2048x8, .f32⟩
  | 61 => ⟨S32x2048x8, .f32⟩
  | 62 => ⟨S32x2048x8, .f32⟩
  | 63 => ⟨S32x2048x8, .f32⟩
  | 64 => ⟨S32x2048x8, .f32⟩
  | 65 => ⟨S32x8x2048, .f32⟩
  | 66 => ⟨S32x2048x8, .f32⟩
  | 67 => ⟨S_, .f32⟩
  | 68 => ⟨S32x2048x8, .f32⟩
  | 69 => ⟨S32x2048x8, .f32⟩
  | 70 => ⟨S_, .f32⟩
  | 71 => ⟨S32x2048x8, .f32⟩
  | 72 => ⟨S32x2048x8, .f32⟩
  | 73 => ⟨S32x2048x8x1, .f32⟩
  | 74 => ⟨S32x2048x8x1, .f32⟩
  | 75 => ⟨S32x2048x8x1, .f32⟩
  | 76 => ⟨S32x2048x8x3, .f32⟩
  | 77 => ⟨S32x2048x24, .f32⟩
  | 78 => ⟨S_, .f32⟩
  | 79 => ⟨S32x2048x104, .f32⟩
  | 80 => ⟨S32x2048x128, .f32⟩
  | 81 => ⟨S32x2048x1x128, .f32⟩
  | 82 => ⟨S32x2048x4x128, .f32⟩
  | 83 => ⟨S32x2048x4x128, .f32⟩
  | 84 => ⟨S32x2048x4x256, .f32⟩
  | 85 => ⟨S32x2048x1024, .f32⟩
  | 86 => ⟨S32x2048x64, .f32⟩
  | 87 => ⟨S2048x2048, .i32⟩
  | 88 => ⟨S2048x2048, .i32⟩
  | 89 => ⟨S2048x2048, .i1⟩
  | 90 => ⟨S_, .i32⟩
  | 91 => ⟨S1x2048, .i32⟩
  | 92 => ⟨S1x2048, .i32⟩
  | 93 => ⟨S2048x2048, .i32⟩
  | 94 => ⟨S2048x2048, .i32⟩
  | 95 => ⟨S2048x2048, .i1⟩
  | 96 => ⟨S2048x2048, .i1⟩
  | 97 => ⟨S2048x2048, .f32⟩
  | 98 => ⟨S32x64x2048, .f32⟩
  | 99 => ⟨S32x2048x64, .f32⟩
  | 100 => ⟨S2048, .i32⟩
  | 101 => ⟨S_, .i32⟩
  | 102 => ⟨S2048, .i32⟩
  | 103 => ⟨S2048, .i32⟩
  | 104 => ⟨S_, .i32⟩
  | 105 => ⟨S2048, .i32⟩
  | 106 => ⟨S2048, .i32⟩
  | 107 => ⟨S2048, .f32⟩
  | 108 => ⟨S1x2048x1, .f32⟩
  | 109 => ⟨S32x2048x64, .f32⟩
  | 110 => ⟨S32x2048x64, .f32⟩
  | 111 => ⟨S32x2048x64, .f32⟩
  | 112 => ⟨S1x1x64x64, .f32⟩
  | 113 => ⟨S64x64, .f32⟩
  | 114 => ⟨S32x2048x64, .f32⟩
  | 115 => ⟨S32x2048x64, .f32⟩
  | 116 => ⟨S2048x2048, .i32⟩
  | 117 => ⟨S2048x2048, .i32⟩
  | 118 => ⟨S2048x2048, .i1⟩
  | 119 => ⟨S_, .i32⟩
  | 120 => ⟨S1x2048, .i32⟩
  | 121 => ⟨S1x2048, .i32⟩
  | 122 => ⟨S2048x2048, .i32⟩
  | 123 => ⟨S2048x2048, .i32⟩
  | 124 => ⟨S2048x2048, .i1⟩
  | 125 => ⟨S2048x2048, .i1⟩
  | 126 => ⟨S2048x2048, .f32⟩
  | 127 => ⟨S32x64x2048, .f32⟩
  | _ => ⟨S32x2048x1024, .f32⟩

abbrev hbmTy0_1 (i : Nat) : BufTy := match i % 128 with
  | 0 => ⟨S32x2048x64, .f32⟩
  | 1 => ⟨S2048, .i32⟩
  | 2 => ⟨S_, .i32⟩
  | 3 => ⟨S2048, .i32⟩
  | 4 => ⟨S2048, .i32⟩
  | 5 => ⟨S_, .i32⟩
  | 6 => ⟨S2048, .i32⟩
  | 7 => ⟨S2048, .i32⟩
  | 8 => ⟨S2048, .f32⟩
  | 9 => ⟨S1x2048x1, .f32⟩
  | 10 => ⟨S32x2048x64, .f32⟩
  | 11 => ⟨S32x2048x64, .f32⟩
  | 12 => ⟨S32x2048x64, .f32⟩
  | 13 => ⟨S1x1x64x64, .f32⟩
  | 14 => ⟨S64x64, .f32⟩
  | 15 => ⟨S32x2048x64, .f32⟩
  | 16 => ⟨S32x2048x64, .f32⟩
  | 17 => ⟨S2048x2048, .i32⟩
  | 18 => ⟨S2048x2048, .i32⟩
  | 19 => ⟨S2048x2048, .i1⟩
  | 20 => ⟨S_, .i32⟩
  | 21 => ⟨S1x2048, .i32⟩
  | 22 => ⟨S1x2048, .i32⟩
  | 23 => ⟨S2048x2048, .i32⟩
  | 24 => ⟨S2048x2048, .i32⟩
  | 25 => ⟨S2048x2048, .i1⟩
  | 26 => ⟨S2048x2048, .i1⟩
  | 27 => ⟨S2048x2048, .f32⟩
  | 28 => ⟨S32x64x2048, .f32⟩
  | 29 => ⟨S32x2048x64, .f32⟩
  | 30 => ⟨S2048, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i32⟩
  | 37 => ⟨S2048, .f32⟩
  | 38 => ⟨S1x2048x1, .f32⟩
  | 39 => ⟨S32x2048x64, .f32⟩
  | 40 => ⟨S32x2048x64, .f32⟩
  | 41 => ⟨S32x2048x64, .f32⟩
  | 42 => ⟨S1x1x64x64, .f32⟩
  | 43 => ⟨S64x64, .f32⟩
  | 44 => ⟨S32x2048x64, .f32⟩
  | 45 => ⟨S32x2048x64, .f32⟩
  | 46 => ⟨S2048x2048, .i32⟩
  | 47 => ⟨S2048x2048, .i32⟩
  | 48 => ⟨S2048x2048, .i1⟩
  | 49 => ⟨S_, .i32⟩
  | 50 => ⟨S1x2048, .i32⟩
  | 51 => ⟨S1x2048, .i32⟩
  | 52 => ⟨S2048x2048, .i32⟩
  | 53 => ⟨S2048x2048, .i32⟩
  | 54 => ⟨S2048x2048, .i1⟩
  | 55 => ⟨S2048x2048, .i1⟩
  | 56 => ⟨S2048x2048, .f32⟩
  | 57 => ⟨S32x64x2048, .f32⟩
  | 58 => ⟨S32x2048x64, .f32⟩
  | 59 => ⟨S2048, .i32⟩
  | 60 => ⟨S_, .i32⟩
  | 61 => ⟨S2048, .i32⟩
  | 62 => ⟨S2048, .i32⟩
  | 63 => ⟨S_, .i32⟩
  | 64 => ⟨S2048, .i32⟩
  | 65 => ⟨S2048, .i32⟩
  | 66 => ⟨S2048, .f32⟩
  | 67 => ⟨S1x2048x1, .f32⟩
  | 68 => ⟨S32x2048x64, .f32⟩
  | 69 => ⟨S32x2048x64, .f32⟩
  | 70 => ⟨S32x2048x64, .f32⟩
  | 71 => ⟨S1x1x64x64, .f32⟩
  | 72 => ⟨S64x64, .f32⟩
  | 73 => ⟨S32x2048x64, .f32⟩
  | 74 => ⟨S32x2048x256, .f32⟩
  | 75 => ⟨S1x256, .f32⟩
  | 76 => ⟨S256, .f32⟩
  | 77 => ⟨S1x1x256, .f32⟩
  | 78 => ⟨S32x2048x256, .f32⟩
  | 79 => ⟨S32x2048x256, .f32⟩
  | 80 => ⟨S_, .f32⟩
  | 81 => ⟨S32x2x256, .f32⟩
  | 82 => ⟨S32x2048x256, .f32⟩
  | 83 => ⟨S32x2050x256, .f32⟩
  | 84 => ⟨S1x1x256, .f32⟩
  | 85 => ⟨S256, .f32⟩
  | 86 => ⟨S32x2048x256, .f32⟩
  | 87 => ⟨S1x1x256, .f32⟩
  | 88 => ⟨S32x2048x256, .f32⟩
  | 89 => ⟨S32x2048x256, .f32⟩
  | 90 => ⟨S1x1x256, .f32⟩
  | 91 => ⟨S256, .f32⟩
  | 92 => ⟨S32x2048x256, .f32⟩
  | 93 => ⟨S1x1x256, .f32⟩
  | 94 => ⟨S32x2048x256, .f32⟩
  | 95 => ⟨S32x2048x256, .f32⟩
  | 96 => ⟨S32x2048x256, .f32⟩
  | 97 => ⟨S1x1x256, .f32⟩
  | 98 => ⟨S256, .f32⟩
  | 99 => ⟨S32x2048x256, .f32⟩
  | 100 => ⟨S1x1x256, .f32⟩
  | 101 => ⟨S32x2048x256, .f32⟩
  | 102 => ⟨S32x2048x256, .f32⟩
  | 103 => ⟨S32x2048x256, .f32⟩
  | 104 => ⟨S32x2048x256, .f32⟩
  | 105 => ⟨S32x2048x512, .f32⟩
  | 106 => ⟨S_, .f32⟩
  | 107 => ⟨S32x2048x512, .f32⟩
  | 108 => ⟨S32x2048x512, .f32⟩
  | 109 => ⟨S65536x512, .f32⟩
  | 110 => ⟨S65536x512, .bf16⟩
  | 111 => ⟨S65536x1024, .f32⟩
  | 112 => ⟨S65536x1024, .bf16⟩
  | 113 => ⟨S65536x512, .f32⟩
  | 114 => ⟨S65536x512, .bf16⟩
  | 115 => ⟨S65536x512, .f32⟩
  | 116 => ⟨S65536x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_cst_3 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_4 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_5 : Ref sig .tc := ⟨.hbm, 101, rfl⟩
abbrev main_v72 : Ref sig .tc := ⟨.hbm, 102, rfl⟩
abbrev main_v73 : Ref sig .tc := ⟨.hbm, 103, rfl⟩
abbrev main_c_6 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_7 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_8 : Ref sig .tc := ⟨.hbm, 130, rfl⟩
abbrev main_v98 : Ref sig .tc := ⟨.hbm, 131, rfl⟩
abbrev main_v99 : Ref sig .tc := ⟨.hbm, 132, rfl⟩
abbrev main_c_9 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_c_10 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_11 : Ref sig .tc := ⟨.hbm, 159, rfl⟩
abbrev main_v124 : Ref sig .tc := ⟨.hbm, 160, rfl⟩
abbrev main_v125 : Ref sig .tc := ⟨.hbm, 161, rfl⟩
abbrev main_c_12 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_c_13 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_c_14 : Ref sig .tc := ⟨.hbm, 188, rfl⟩
abbrev main_v150 : Ref sig .tc := ⟨.hbm, 189, rfl⟩
abbrev main_v151 : Ref sig .tc := ⟨.hbm, 190, rfl⟩
abbrev main_c_15 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_16 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_cst_17 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩

abbrev nD : Nat := 1
abbrev τ : Topo := Topo.v7x

variable {F : FTy → Type} [FloatOps F]
-- ==== Proof.FfnValue.lean ====
/-
  What the half feed-forward step stores, and its reference.
-/
module

public import proofs.«01_k».proof.Proof.Gen.FfnIdeal.Frame
public import proofs.«01_k».proof.Proof.Gen.FfnRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- The reference's RMS norm with the layer's gain, as its operations compose. -/
def normed (X : FVec Ideal S32x2048x1024 .f32) (G : FVec Ideal S4x1024 .f32) : FVec Ideal S32x2048x1024 .f32 :=
  mulf (mulf X
      (broadcastInDim Cert.FfnRefIdeal.S32x2048x1024 ![0, 1, 2] Cert.FfnRefIdeal.Gen.bcast_S32x2048x1_S32x2048x1024_0_1_2 (Host.rsqrt (addf (Host.divf
      (broadcastInDim Cert.FfnRefIdeal.S32x2048x1 ![0, 1] Cert.FfnRefIdeal.Gen.bcast_S32x2048_S32x2048x1_0_1 (Host.reduceAdd (mulf X X) (constant Cert.FfnRefIdeal.S_ .f32 0x00000000#32) Cert.FfnRefIdeal.Gen.reducesTo_S32x2048x1024_S32x2048_d2 Cert.FfnRefIdeal.Gen.h_S_))
      (broadcastInDim Cert.FfnRefIdeal.S32x2048x1 ![] Cert.FfnRefIdeal.Gen.bcast_S_S32x2048x1 (constant Cert.FfnRefIdeal.S_ .f32 0x44800000#32)))
      (broadcastInDim Cert.FfnRefIdeal.S32x2048x1 ![] Cert.FfnRefIdeal.Gen.bcast_S_S32x2048x1 (constant Cert.FfnRefIdeal.S_ .f32 0x358637BD#32))))))
      (broadcastInDim Cert.FfnRefIdeal.S32x2048x1024 ![0, 1, 2] Cert.FfnRefIdeal.Gen.bcast_S1x1x1024_S32x2048x1024_0_1_2
      (broadcastInDim Cert.FfnRefIdeal.S1x1x1024 ![2] Cert.FfnRefIdeal.Gen.bcast_S1024_S1x1x1024_2 (shapeCast _ (extractStridedSlice Cert.FfnRefIdeal.S1x1024 ![0, 0] G Cert.FfnRefIdeal.Gen.slices_S4x1024_S1x1024_0_0) Cert.FfnRefIdeal.Gen.shapeCasts_S1x1024_S1024)))

/-- The reference's first product: gate and up projection side by side. -/
def hidden (X : FVec Ideal S32x2048x1024 .f32) (G : FVec Ideal S4x1024 .f32) (Wi : FVec Ideal S4x1024x5632 .f32) :
    FVec Ideal Cert.FfnRefIdeal.S32x2048x5632 .f32 :=
  Host.dotGeneral Cert.FfnRefIdeal.dot_S32x2048x1024_S1024x5632_S32x2048x5632_2_0_01_1_n_n none (normed X G)
      (shapeCast _ (extractStridedSlice Cert.FfnRefIdeal.S1x1024x5632 ![0, 0, 0] Wi Cert.FfnRefIdeal.Gen.slices_S4x1024x5632_S1x1024x5632_0_0_0) Cert.FfnRefIdeal.Gen.shapeCasts_S1x1024x5632_S1024x5632)

/-- The reference's half feed-forward step, as its operations compose, over the four arguments. -/
def REF (X : FVec Ideal S32x2048x1024 .f32) (G : FVec Ideal S4x1024 .f32) (Wi : FVec Ideal S4x1024x5632 .f32)
    (Wo : FVec Ideal S4x2816x1024 .f32) : FVec Ideal S65536x1024 .f32 :=
  shapeCast _ (addf X
    (mulf
      (broadcastInDim Cert.FfnRefIdeal.S32x2048x1024 ![] Cert.FfnRefIdeal.Gen.bcast_S_S32x2048x1024 (constant Cert.FfnRefIdeal.S_ .f32 0x3F000000#32))
    (Host.dotGeneral Cert.FfnRefIdeal.dot_S32x2048x2816_S2816x1024_S32x2048x1024_2_0_01_1_n_n none
    (mulf
    (mulf
      (extractStridedSlice Cert.FfnRefIdeal.S32x2048x2816 ![0, 0, 0] (hidden X G Wi) Cert.FfnRefIdeal.Gen.slices_S32x2048x5632_S32x2048x2816_0_0_0)
    (Host.divf
      (broadcastInDim Cert.FfnRefIdeal.S32x2048x2816 ![] Cert.FfnRefIdeal.Gen.bcast_S_S32x2048x2816 (constant Cert.FfnRefIdeal.S_ .f32 0x3F800000#32)) (addf
      (broadcastInDim Cert.FfnRefIdeal.S32x2048x2816 ![] Cert.FfnRefIdeal.Gen.bcast_S_S32x2048x2816 (constant Cert.FfnRefIdeal.S_ .f32 0x3F800000#32))
    (Host.exp
    (Host.negf
      (extractStridedSlice Cert.FfnRefIdeal.S32x2048x2816 ![0, 0, 0] (hidden X G Wi) Cert.FfnRefIdeal.Gen.slices_S32x2048x5632_S32x2048x2816_0_0_0))))))
      (extractStridedSlice Cert.FfnRefIdeal.S32x2048x2816 ![0, 0, 2816] (hidden X G Wi) Cert.FfnRefIdeal.Gen.slices_S32x2048x5632_S32x2048x2816_0_0_2816)) (shapeCast _
      (extractStridedSlice Cert.FfnRefIdeal.S1x2816x1024 ![0, 0, 0] Wo Cert.FfnRefIdeal.Gen.slices_S4x2816x1024_S1x2816x1024_0_0_0) Cert.FfnRefIdeal.Gen.shapeCasts_S1x2816x1024_S2816x1024)))) Cert.FfnRefIdeal.Gen.shapeCasts_S32x2048x1024_S65536x1024

/-- A sum over the 2816 hidden columns is the sum over the three chunks of columns the kernel takes in turn. -/
theorem sum_chunks (f : Fin 2816 → EReal) :
    ∑ k, f k = ((∑ k : Fin 1024, f ⟨k, by omega⟩) + ∑ k : Fin 1024, f ⟨1024 + k, by omega⟩) + ∑ k : Fin 768, f ⟨2048 + k, by omega⟩ := by
  have h1 := Fin.sum_univ_add (a := 2048) (b := 768) f
  have h2 := Fin.sum_univ_add (a := 1024) (b := 1024) (fun k => f (Fin.castAdd 768 k))
  exact h1.trans (congrArg (· + _) h2)

/-- Point `t` of the grid works on row block `t` of the rows and on the whole weights of the layer. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![t.val, 0] :=
  (by decide +kernel : ∀ t : Fin grid0.N, _)

/-- One row of a block goes through the half feed-forward step as the reference takes the row of the array it was
    read from: the kernel's three chunks of hidden columns are together the reference's one sum. -/
theorem pay_eq (x : FVec Ideal S512x1024 .f32) (g : FVec Ideal S1x1x1024 .f32) (wi : FVec Ideal S1x1024x5632 .bf16)
    (wo : FVec Ideal S1x2816x1024 .bf16) (X : FVec Ideal S32x2048x1024 .f32) (G : FVec Ideal S4x1024 .f32)
    (Wi : FVec Ideal S4x1024x5632 .f32) (Wo : FVec Ideal S4x2816x1024 .f32) (r : Fin 512) (R : Fin 65536) (l : Fin 1024)
    (hx : ∀ k : Fin 1024, x (ix2 r k) = X (ix3 ⟨R / 2048, by omega⟩ ⟨R % 2048, by omega⟩ k))
    (hg : ∀ k : Fin 1024, g (ix3 0 0 k) = G (ix2 0 k))
    (hi : ∀ (k : Fin 1024) (h : Fin 5632), wi (ix3 0 k h) = Wi (ix3 0 k h))
    (ho : ∀ h : Fin 2816, wo (ix3 0 h l) = Wo (ix3 0 h l)) :
    out0_4 (F := Ideal) x g wi wo (ix2 r l) = REF X G Wi Wo (ix2 R l) := by
  frame_out
  pointwise [k0_pay1, k0_pay2, k0_pay3, k0_pay4, k0_pay5, REF, hidden, normed]
  simp only [hx, hg, hi, ho]
  rw [sum_chunks]
  simp only [← Nat.add_assoc, Nat.reduceAdd]
  rfl

/-- What point `t` stores at row `r` of its block is the reference at that row of the array. -/
theorem core (c : Dev nD) (t : Fin cfg0.N) (r : Fin 512) (R : Fin 65536) (l : Fin 1024) (h0 : (R : ℕ) = t.val * 512 + r) :
    out0_4 (F := Ideal) (iblk m c 0 t) (iblk m c 1 t) (iblk m c 2 t) (iblk m c 3 t) (ix2 r l)
    = REF (m ((c : Thread nD τ).loc main_arg0)) (m ((c : Thread nD τ).loc main_arg1)) (m ((c : Thread nD τ).loc main_arg2)) (m ((c : Thread nD τ).loc main_arg3)) (ix2 R l) := by
  refine pay_eq _ _ _ _ _ _ _ _ r R l (fun k => ?_) (fun k => ?_) (fun k h => ?_) fun h => ?_
  · blk_point [iblk, V, idx t]
  · blk_point [iblk, V, idx t]
  · blk_point [iblk, V, idx t]
  · blk_point [iblk, V, idx t]

/-- So what point `t` stores at block index `y` is the reference at the array index `y` sits at. -/
theorem point (c : Dev nD) (t : Fin cfg0.N) (y) : out0_4 (F := Ideal) (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  have ht : t.val < 128 := t.isLt
  have hb0 : (y 0 : ℕ) < 512 := (y 0).isLt
  refine (congrArg _ (eq_ix2 y)).trans ((core m c t (y 0) ⟨t.val * 512 + (y 0 : ℕ), by omega⟩ (y 1) rfl).trans (congrArg _ ?_))
  blk_ext [idx t]

/-- The result array after the run is the reference's half feed-forward step of the arguments. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.FfnIdeal.Value

end
-- ==== Proof.MixOutValue.lean ====
/-
  What the mixer's output projection stores, and its reference.
-/
module

public import proofs.«01_k».proof.Proof.Gen.MixOutIdeal.Frame
public import proofs.«01_k».proof.Proof.Gen.MixOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixOutIdeal.Value

open Cert.MixOutIdeal Cert.MixOutIdeal.Gen

variable (m : (ℓ : Loc nD τ sig) → Buf (Elt Ideal) ℓ)

/-- The reference's lines for the output projection, as its operations compose, over the four arguments. -/
def REF (X : FVec Ideal S32x2048x1024 .f32) (Ya Yp : FVec Ideal S65536x512 .bf16) (W : FVec Ideal S4x1024x1024 .f32) :
    FVec Ideal S65536x1024 .f32 :=
  shapeCast _ (addf X
    (Host.dotGeneral Cert.MixOutRefIdeal.dot_S32x2048x1024_S1024x1024_S32x2048x1024_2_0_01_1_n_n none
      (shapeCast _ (concatenate Cert.MixOutRefIdeal.S65536x1024 1 [⟨Cert.MixOutRefIdeal.S65536x512, (extf .f32 Ya Cert.MixOutRefIdeal.Gen.bitsLt_bf16_f32)⟩, ⟨Cert.MixOutRefIdeal.S65536x512, (extf .f32 Yp Cert.MixOutRefIdeal.Gen.bitsLt_bf16_f32)⟩] Cert.MixOutRefIdeal.Gen.concatenates_S65536x512_S65536x512_S65536x1024_d1) Cert.MixOutRefIdeal.Gen.shapeCasts_S65536x1024_S32x2048x1024)
      (shapeCast _ (extractStridedSlice Cert.MixOutRefIdeal.S1x1024x1024 ![0, 0, 0] W Cert.MixOutRefIdeal.Gen.slices_S4x1024x1024_S1x1024x1024_0_0_0) Cert.MixOutRefIdeal.Gen.shapeCasts_S1x1024x1024_S1024x1024))) Cert.MixOutRefIdeal.Gen.shapeCasts_S32x2048x1024_S65536x1024

/-- Point `t` of the grid works on row block `t` of the rows and on the whole weight of the layer. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] :=
  (by decide +kernel : ∀ t : Fin grid0.N, _)

/-- What point `t` stores at block index `y` is the reference at row `y 0` of that row block: the product with the
    concatenated branches is the sum of the two branches' products. -/
theorem core (c : Dev nD) (t : Fin cfg0.N) (y : S1024x1024.Idx) (j : S65536x1024.Idx)
    (h0 : (j 0 : ℕ) = t.val * 1024 + y 0) (h1 : (j 1 : ℕ) = y 1) : out0_4 (F := Ideal) (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) j := by
  frame_out
  pointwise [k0_pay1, REF]
  blk_point [iblk, V, idx t]

/-- So what point `t` stores at block index `y` is the reference at the array index `y` sits at. -/
theorem point (c : Dev nD) (t : Fin cfg0.N) (y) : out0_4 (F := Ideal) (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  refine core m c t y _ ?_ ?_ <;> (blk_simp [idx t] <;> try omega)

/-- The result array after the run is the reference's output projection of the arguments. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.MixOutIdeal.Value

end
-- ==== Proof.FinalNormValue.lean ====
/-
  What the final norm stores, and its reference.
-/
module

public import proofs.«01_k».proof.Proof.Gen.FinalNormIdeal.Frame
public import proofs.«01_k».proof.Proof.Gen.FinalNormRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FinalNormIdeal.Value

open Cert.FinalNormIdeal Cert.FinalNormIdeal.Gen

variable (m : (ℓ : Loc nD τ sig) → Buf (Elt Ideal) ℓ)

/-- The reference's final norm, as its operations compose, over the two arguments. -/
def REF (X : FVec Ideal S32x2048x1024 .f32) (G : FVec Ideal S1024 .f32) : FVec Ideal S65536x1024 .f32 :=
  shapeCast _
    (mulf (mulf X
      (broadcastInDim Cert.FinalNormRefIdeal.S32x2048x1024 ![0, 1, 2] Cert.FinalNormRefIdeal.Gen.bcast_S32x2048x1_S32x2048x1024_0_1_2 (Host.rsqrt (addf (Host.divf
      (broadcastInDim Cert.FinalNormRefIdeal.S32x2048x1 ![0, 1] Cert.FinalNormRefIdeal.Gen.bcast_S32x2048_S32x2048x1_0_1 (Host.reduceAdd (mulf X X) (constant Cert.FinalNormRefIdeal.S_ .f32 0x00000000#32) Cert.FinalNormRefIdeal.Gen.reducesTo_S32x2048x1024_S32x2048_d2 Cert.FinalNormRefIdeal.Gen.h_S_))
      (broadcastInDim Cert.FinalNormRefIdeal.S32x2048x1 ![] Cert.FinalNormRefIdeal.Gen.bcast_S_S32x2048x1 (constant Cert.FinalNormRefIdeal.S_ .f32 0x44800000#32)))
      (broadcastInDim Cert.FinalNormRefIdeal.S32x2048x1 ![] Cert.FinalNormRefIdeal.Gen.bcast_S_S32x2048x1 (constant Cert.FinalNormRefIdeal.S_ .f32 0x358637BD#32))))))
      (broadcastInDim Cert.FinalNormRefIdeal.S32x2048x1024 ![0, 1, 2] Cert.FinalNormRefIdeal.Gen.bcast_S1x1x1024_S32x2048x1024_0_1_2
      (broadcastInDim Cert.FinalNormRefIdeal.S1x1x1024 ![2] Cert.FinalNormRefIdeal.Gen.bcast_S1024_S1x1x1024_2 G))) Cert.FinalNormRefIdeal.Gen.shapeCasts_S32x2048x1024_S65536x1024

/-- Point `t` of the grid works on row block `t` of the rows and on the whole gain. -/
theorem idx : ∀ t : Fin cfg0.N, win0_0.index t = ![t.val, 0] ∧ win0_1.index t = ![0, 0] ∧ win0_2.index t = ![t.val, 0] :=
  (by decide +kernel : ∀ t : Fin grid0.N, _)

/-- One row of a block is normed as the reference norms the row of the array it was read from. -/
theorem pay_eq (x : FVec Ideal S1024x1024 .f32) (g : FVec Ideal S1x1024 .f32) (X : FVec Ideal S32x2048x1024 .f32)
    (G : FVec Ideal S1024 .f32) (r : Fin 1024) (R : Fin 65536) (l : Fin 1024)
    (hx : ∀ k : Fin 1024, x (ix2 r k) = X (ix3 ⟨R / 2048, by omega⟩ ⟨R % 2048, by omega⟩ k))
    (hg : g (ix2 0 l) = G (ix1 l)) :
    k0_pay1 (F := Ideal) x g (ix2 r l) = REF X G (ix2 R l) := by
  pointwise [k0_pay1, REF]
  simp only [hx, hg]

/-- What point `t` stores at block index `y` is the reference at row `y 0` of that row block. -/
theorem core (c : Dev nD) (t : Fin cfg0.N) (r : Fin 1024) (R : Fin 65536) (l : Fin 1024) (h0 : (R : ℕ) = t.val * 1024 + r) :
    k0_pay1 (F := Ideal) (iblk m c 0 t) (iblk m c 1 t) (ix2 r l)
    = REF (m ((c : Thread nD τ).loc main_arg0)) (m ((c : Thread nD τ).loc main_arg1)) (ix2 R l) := by
  refine pay_eq _ _ _ _ r R l (fun k => ?_) ?_
  · blk_point [iblk, V, idx t]
  · blk_point [iblk, V, idx t]

/-- So what point `t` stores at block index `y` is the reference at the array index `y` sits at. -/
theorem point (c : Dev nD) (t : Fin cfg0.N) (y) : k0_pay1 (F := Ideal) (iblk m c 0 t) (iblk m c 1 t) y
    = REF (m ((c : Thread nD τ).loc main_arg0)) (m ((c : Thread nD τ).loc main_arg1)) (((cfg0.win 2).blk t).view.emb y) := by
  have ht : t.val < 64 := t.isLt
  have hb0 : (y 0 : ℕ) < 1024 := (y 0).isLt
  refine (congrArg _ (eq_ix2 y)).trans ((core m c t (y 0) ⟨t.val * 1024 + (y 0 : ℕ), by omega⟩ (y 1) rfl).trans (congrArg _ ?_))
  blk_ext [idx t]

/-- The result array after the run is the reference's final norm of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FinalNormIdeal.Value

end
-- ==== Proof.DenseClaims.lean ====
/-
  The claims about the three calls that need no hypothesis on their arguments: the half feed-forward step, the mixer's
  output projection and the final norm. Each program runs and leaves its arguments as they were, with every counter back
  at zero; each idealized kernel is the printed one, no operation replaced; each ends, as extended reals, with the array
  its reference ends with.
-/
module

public import proofs.«01_k».proof.Defs
public import proofs.«01_k».proof.Proof.Gen.Ffn.Frame
public import proofs.«01_k».proof.Proof.Gen.MixOut.Frame
public import proofs.«01_k».proof.Proof.Gen.FinalNorm.Frame
public import proofs.«01_k».proof.Proof.FfnValue
public import proofs.«01_k».proof.Proof.MixOutValue
public import proofs.«01_k».proof.Proof.FinalNormValue
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.FfnClaims

/-- The printed half feed-forward step runs and leaves its arguments unchanged. -/
theorem frame_p : Cert.quiescent_Ffn := fun m ρ _ => Cert.Ffn.Gen.frame m ρ
/-- So does its idealization, -/
theorem frame_pi : Cert.quiescent_FfnIdeal := fun m ρ _ => Cert.FfnIdeal.Gen.frame m ρ
/-- and so does the reference. -/
theorem frame_ri : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)
/-- The idealization replaced nothing. -/
theorem preserves : Cert.preserves_Ffn_FfnIdeal := trivial
/-- Kernel and reference end with one array. -/
theorem algebraic : Cert.algebraic_FfnIdeal_FfnRefIdeal := by
  pair_intro
  · run_from Cert.FfnIdeal.Gen.run_main m g
  · run_from Cert.FfnRefIdeal.Value.run (F := Ideal) m' g'
    unfold Cert.FfnRefIdeal.Value.res_main_v28
    rw [(hagree c).1, (hagree c).2.1, (hagree c).2.2.1, (hagree c).2.2.2]
    exact (Cert.FfnIdeal.Value.final m c).symm

end Cert.Proof.FfnClaims

namespace Cert.Proof.MixOutClaims

/-- The printed output projection runs and leaves its arguments unchanged. -/
theorem frame_p : Cert.quiescent_MixOut := fun m ρ _ => Cert.MixOut.Gen.frame m ρ
/-- So does its idealization, -/
theorem frame_pi : Cert.quiescent_MixOutIdeal := fun m ρ _ => Cert.MixOutIdeal.Gen.frame m ρ
/-- and so does the reference. -/
theorem frame_ri : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)
/-- The idealization replaced nothing. -/
theorem preserves : Cert.preserves_MixOut_MixOutIdeal := trivial
/-- Kernel and reference end with one array. -/
theorem algebraic : Cert.algebraic_MixOutIdeal_MixOutRefIdeal := by
  pair_intro
  · run_from Cert.MixOutIdeal.Gen.run_main m g
  · hlo_run
    rw [(hagree c).2.1, (hagree c).2.2.1]
    exact (Cert.MixOutIdeal.Value.final m c).symm

end Cert.Proof.MixOutClaims

namespace Cert.Proof.FinalNormClaims

/-- The printed final norm runs and leaves its arguments unchanged. -/
theorem frame_p : Cert.quiescent_FinalNorm := fun m ρ _ => Cert.FinalNorm.Gen.frame m ρ
/-- So does its idealization, -/
theorem frame_pi : Cert.quiescent_FinalNormIdeal := fun m ρ _ => Cert.FinalNormIdeal.Gen.frame m ρ
/-- and so does the reference. -/
theorem frame_ri : Cert.quiescent_FinalNormRefIdeal := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)
/-- The idealization replaced nothing. -/
theorem preserves : Cert.preserves_FinalNorm_FinalNormIdeal := trivial
/-- Kernel and reference end with one array. -/
theorem algebraic : Cert.algebraic_FinalNormIdeal_FinalNormRefIdeal := by
  pair_intro
  · run_from Cert.FinalNormIdeal.Gen.run_main m g
  · hlo_run
    exact (Cert.FinalNormIdeal.Value.final m c).symm

end Cert.Proof.FinalNormClaims

end
-- ==== Proof.AttnFinite.lean ====
/-
  What the precondition of the attention's value claim says: every element of the queries, the keys with their gates, and
  the values is a real number.
-/
module

public import proofs.«01_k».proof.Defs
public import proofs.«01_k».proof.Proof.Gen.KernelIdeal
public import Idealize.ShloMosaic.Lib.ReduceAll
public import Idealize.ShloMosaic.PureOps.Ideal

@[expose] public section

set_option maxRecDepth 16384

noncomputable section

open Idealize.ShloMosaic Idealize.ShloMosaic.TcCoe

namespace Cert.Proof.AttnFinite

/-- The precondition's side conditions. -/
instance facts : Cert.Pre_finite.Facts := ⟨by decide, by decide, by decide, by decide, by decide⟩

/-- The bfloat16 infinity is read as infinity. -/
theorem inf_word : (Ideal.ofBits .bf16 0x7F80#16 : EReal) = ⊤ := by
  simp [Ideal.ofBits, Ideal.ieee]

/-- An extended real below infinity in absolute value is a real number. -/
theorem real_of_abs (x : EReal) (h : max x (-x) < ⊤) : x = ((x.toReal : ℝ) : EReal) := by
  rw [max_lt_iff] at h
  refine (EReal.coe_toReal h.1.ne fun hx => ?_).symm
  rw [hx] at h
  exact absurd h.2 (by simp)

instance : Subsingleton Cert.Pre_finite.S_.Idx := ⟨fun a b => funext fun k => k.elim0⟩

/-- If "every element is below infinity in absolute value" comes out true of an array, each of its elements is a real
    number. -/
theorem real_of_all {s : Shape} {axes : List (Fin s.rank)} (x : FVec Ideal s .bf16)
    (b : Cert.Pre_finite.S_.BroadcastsInDim s (![] : Fin 0 → Fin s.rank)) (h : s.ReducesTo axes Cert.Pre_finite.S_)
    (hu : 0 < Cert.Pre_finite.S_.numel) (j : Cert.Pre_finite.S_.Idx)
    (e : Host.reduce IntOp.andi
      (cmpf .olt (Host.absf x) (broadcastInDim s ![] b (constant (F := Ideal) Cert.Pre_finite.S_ .bf16 0x7F80#16)))
      (constantI Cert.Pre_finite.S_ 1 1#1) h hu j = 1#1) (i : s.Idx) : x i = (((x i : EReal).toReal : ℝ) : EReal) := by
  have h1 := Host.reduce_andi_all _ _ h hu j e i
  refine real_of_abs _ ?_
  have h2 : BitVec.ofBool (decide (max (x i : EReal) (-(x i : EReal)) < Ideal.ofBits .bf16 0x7F80#16)) = 1#1 := h1
  rw [inf_word] at h2
  by_contra hn
  rw [decide_eq_false hn] at h2
  exact absurd h2 (by decide)

/-- Under the precondition the queries, the keys with their gates, and the values are arrays of real numbers. -/
theorem real_args (q : FVec Ideal Cert.Pre_finite.S65536x512 .bf16) (k : FVec Ideal Cert.Pre_finite.S65536x1024 .bf16)
    (v : FVec Ideal Cert.Pre_finite.S65536x512 .bf16)
    (h : Cert.Pre_finite.fn (F := Ideal) q k v = fun _ => 1#1) :
    (∀ i, q i = (((q i : EReal).toReal : ℝ) : EReal)) ∧ (∀ i, k i = (((k i : EReal).toReal : ℝ) : EReal))
      ∧ ∀ i, v i = (((v i : EReal).toReal : ℝ) : EReal) := by
  have h0 := congrFun h (fun a => a.elim0)
  have h1 := IntOp.andi_eq_one.1 h0
  have h2 := IntOp.andi_eq_one.1 h1.1
  exact ⟨real_of_all q _ _ _ _ h2.1, real_of_all k _ _ _ _ h2.2, real_of_all v _ _ _ _ h1.2⟩

end Cert.Proof.AttnFinite

end
-- ==== Proof.AttnMath.lean ====
/-
  Softmax over extended reals that are real numbers.
-/
module

public import Idealize.ShloMosaic.Lib.Pipeline.ValueKit

@[expose] public section

noncomputable section

open Idealize.ShloMosaic

namespace Cert.KernelIdeal.Value

/-- Causal attention of query `q`: the mean of the values `v` over the keys up to `q`, key `k` weighted by `2 ^ σ k`. -/
def att (σ v : Fin 2048 → ℝ) (q : Fin 2048) : ℝ :=
  (∑ k, if k ≤ q then v k * (2 : ℝ) ^ σ k else 0) / ∑ k, if k ≤ q then (2 : ℝ) ^ σ k else 0

/-- Some key has positive weight: the query itself. -/
theorem att_pos (σ : Fin 2048 → ℝ) (q : Fin 2048) : 0 < ∑ k, if k ≤ q then (2 : ℝ) ^ σ k else 0 := by
  refine Finset.sum_pos' (fun k _ => ?_) ⟨q, Finset.mem_univ _, ?_⟩
  · split_ifs <;> positivity
  · rw [if_pos le_rfl]; positivity

/-- A sum over the keys up to query `q0 + r` is the sum over the `q0` keys of the earlier blocks and the masked sum over the
    keys of the query's own block. -/
theorem sum_causal (f : Fin 2048 → ℝ) (q0 : ℕ) (hq : q0 + 256 ≤ 2048) (r : Fin 256) :
    (∑ k : Fin 2048, if k ≤ (⟨q0 + r, by omega⟩ : Fin 2048) then f k else 0)
    = (∑ k : Fin q0, f ⟨k, by omega⟩) + ∑ k : Fin 256, if k ≤ r then f ⟨q0 + k, by omega⟩ else 0 := by
  let g : ℕ → ℝ := fun k => if h : k < 2048 then (if k ≤ q0 + r then f ⟨k, h⟩ else 0) else 0
  have e : 2048 = q0 + (256 + (2048 - (q0 + 256))) := by omega
  have h1 : (∑ k : Fin 2048, if k ≤ (⟨q0 + r, by omega⟩ : Fin 2048) then f k else 0) = ∑ k ∈ Finset.range 2048, g k := by
    rw [← Fin.sum_univ_eq_sum_range]
    refine Finset.sum_congr rfl fun k _ => ?_
    simp only [g, k.isLt, dif_pos, Fin.le_def]
  rw [h1, congrArg (fun n => ∑ k ∈ Finset.range n, g k) e, Finset.sum_range_add, Finset.sum_range_add]
  have h3 : ∑ k ∈ Finset.range (2048 - (q0 + 256)), g (q0 + (256 + k)) = 0 :=
    Finset.sum_eq_zero fun k _ => by
      simp only [g]
      split_ifs with a b
      · omega
      · rfl
      · rfl
  rw [h3, add_zero]
  refine congrArg₂ (· + ·) ?_ ?_
  · rw [← Fin.sum_univ_eq_sum_range]
    refine Finset.sum_congr rfl fun k _ => ?_
    have := k.isLt
    simp only [g]
    rw [dif_pos (by omega), if_pos (by omega)]
  · rw [← Fin.sum_univ_eq_sum_range (fun k => g (q0 + k))]
    refine Finset.sum_congr rfl fun k _ => ?_
    have := k.isLt
    simp only [g]
    rw [dif_pos (by omega)]
    simp only [Fin.le_def, Nat.add_le_add_iff_left]

/-- The greatest of finitely many extended reals, none of them plus infinity and one of them real, is real. -/
theorem fold_max_real {ι : Type*} [Fintype ι] (f : ι → EReal) (h : ∀ i, f i ≠ ⊤) (i : ι) (hi : f i ≠ ⊥) :
    ∃ μ : ℝ, Finset.fold max ⊥ f Finset.univ = μ := by
  have e : Finset.fold max ⊥ f Finset.univ = Finset.univ.sup f := rfl
  have h1 : Finset.univ.sup f ≠ ⊤ := ((Finset.sup_lt_iff bot_lt_top).2 fun j _ => lt_top_iff_ne_top.2 (h j)).ne
  have h2 : Finset.univ.sup f ≠ ⊥ := fun h => hi (le_bot_iff.1 (h ▸ Finset.le_sup (Finset.mem_univ i)))
  exact ⟨_, e.trans (EReal.coe_toReal h1 h2).symm⟩

/-- A finite sum of reals is the real sum. -/
theorem coe_sum {ι : Type*} [Fintype ι] (f : ι → ℝ) : ∑ i, (f i : EReal) = ((∑ i, f i : ℝ) : EReal) := by
  classical
  refine Finset.induction_on (Finset.univ : Finset ι) (by simp) fun i s hi h => ?_
  rw [Finset.sum_insert hi, Finset.sum_insert hi, h, EReal.coe_add]

/-- A power of two, shifted. -/
theorem exp2_sub (x μ : ℝ) : Ideal.exp2 ((x : EReal) - μ) = (((2 : ℝ) ^ x * (2 : ℝ) ^ (-μ) : ℝ) : EReal) := by
  rw [← EReal.coe_sub, Ideal.exp2_coe, sub_eq_add_neg]
  exact congrArg _ (Real.rpow_add two_pos _ _)

/-- The weight of a masked key is zero. -/
theorem exp2_bot_sub (μ : ℝ) : Ideal.exp2 ((⊥ : EReal) - μ) = 0 := by
  rw [EReal.bot_sub, Ideal.exp2_bot]

/-- A quotient of reals is the real quotient. -/
theorem div_real (a b : ℝ) (h : b ≠ 0) : Ideal.div (a : EReal) b = ((a / b : ℝ) : EReal) := by
  rw [Ideal.div_coe h, ← EReal.coe_mul, div_eq_mul_one_div a b]

/-- One query of the kernel's attention: with the greatest score subtracted from every score before it is exponentiated, the
    weighted sum over the earlier blocks' keys and the query's own masked block, divided by the sum of the weights, is the
    causal attention. -/
theorem block_div (σ v : Fin 2048 → ℝ) (q0 : ℕ) (hq : q0 + 256 ≤ 2048) (r : Fin 256) (s w o : Fin q0 → EReal)
    (d w' o' : Fin 256 → EReal) (b : EReal) (hb : b = ⊥) (hs : ∀ k : Fin q0, s k = σ ⟨k, by omega⟩)
    (hd : ∀ k : Fin 256, d k = if k ≤ r then (σ ⟨q0 + k, by omega⟩ : EReal) else ⊥)
    (hw : ∀ k : Fin q0, w k = v ⟨k, by omega⟩) (hw' : ∀ k : Fin 256, w' k = v ⟨q0 + k, by omega⟩)
    (ho : ∀ k, o k = 1) (ho' : ∀ k, o' k = 1) :
    Ideal.div
      ((∑ k, w k * FloatOps.exp2 (F := Ideal) (φ := .f32)
          (s k - max (Finset.fold max b (fun k => d k) Finset.univ) (Finset.fold max b (fun k => s k) Finset.univ)))
        + ∑ k, w' k * FloatOps.exp2 (F := Ideal) (φ := .f32)
          (d k - max (Finset.fold max b (fun k => d k) Finset.univ) (Finset.fold max b (fun k => s k) Finset.univ)))
      ((∑ k, o k * FloatOps.exp2 (F := Ideal) (φ := .f32)
          (s k - max (Finset.fold max b (fun k => d k) Finset.univ) (Finset.fold max b (fun k => s k) Finset.univ)))
        + ∑ k, o' k * FloatOps.exp2 (F := Ideal) (φ := .f32)
          (d k - max (Finset.fold max b (fun k => d k) Finset.univ) (Finset.fold max b (fun k => s k) Finset.univ)))
    = (att σ v ⟨q0 + r, by omega⟩ : EReal) := by
  subst hb
  obtain ⟨μ, hμ⟩ : ∃ μ : ℝ, max (Finset.fold max ⊥ d Finset.univ) (Finset.fold max ⊥ s Finset.univ) = (μ : EReal) := by
    obtain ⟨a, ha⟩ := fold_max_real d (fun k => by rw [hd]; split_ifs <;> simp) 0 (by rw [hd, if_pos (Fin.zero_le _)]; simp)
    have h1 : Finset.fold max ⊥ s Finset.univ ≠ ⊤ :=
      ((Finset.sup_lt_iff bot_lt_top).2 fun j _ => lt_top_iff_ne_top.2 (by rw [hs]; simp)).ne
    have h2 : max (Finset.fold max ⊥ d Finset.univ) (Finset.fold max ⊥ s Finset.univ) ≠ ⊤ := by
      rw [ha]; exact (max_lt (EReal.coe_lt_top a) (lt_top_iff_ne_top.2 h1)).ne
    have h3 : max (Finset.fold max ⊥ d Finset.univ) (Finset.fold max ⊥ s Finset.univ) ≠ ⊥ := by
      rw [ha]; exact (lt_of_lt_of_le (EReal.bot_lt_coe a) (le_max_left _ _)).ne'
    exact ⟨_, (EReal.coe_toReal h2 h3).symm⟩
  have e1 : ∀ k : Fin q0, FloatOps.exp2 (F := Ideal) (φ := .f32) (s k - μ) = (((2 : ℝ) ^ σ ⟨k, by omega⟩ * (2 : ℝ) ^ (-μ) : ℝ) : EReal) :=
    fun k => by rw [hs]; exact exp2_sub _ _
  have e2 : ∀ k : Fin 256, FloatOps.exp2 (F := Ideal) (φ := .f32) (d k - μ)
      = ((if k ≤ r then (2 : ℝ) ^ σ ⟨q0 + k, by omega⟩ * (2 : ℝ) ^ (-μ) else 0 : ℝ) : EReal) := fun k => by
    rw [hd]
    split_ifs
    · exact exp2_sub _ _
    · exact exp2_bot_sub _
  simp only [hμ, e1, e2, hw, hw', ho, ho', one_mul, ← EReal.coe_mul, coe_sum, ← EReal.coe_add, mul_ite, mul_zero]
  have n1 := sum_causal (fun k => v k * ((2 : ℝ) ^ σ k * (2 : ℝ) ^ (-μ))) q0 hq r
  have n2 := sum_causal (fun k => (2 : ℝ) ^ σ k * (2 : ℝ) ^ (-μ)) q0 hq r
  rw [← n1, ← n2]
  have f1 : ∀ f : Fin 2048 → ℝ, (∑ k : Fin 2048, if k ≤ (⟨q0 + r, by omega⟩ : Fin 2048) then f k * (2 : ℝ) ^ (-μ) else 0)
      = (∑ k : Fin 2048, if k ≤ (⟨q0 + r, by omega⟩ : Fin 2048) then f k else 0) * (2 : ℝ) ^ (-μ) := fun f => by
    rw [Finset.sum_mul]; exact Finset.sum_congr rfl fun k _ => by split_ifs <;> simp
  simp only [← mul_assoc]
  rw [f1, f1]
  have hp : (0 : ℝ) < (2 : ℝ) ^ (-μ) := by positivity
  rw [div_real _ _ (mul_pos (att_pos σ _) hp).ne', mul_div_mul_right _ _ hp.ne']
  rfl

/-- The first block has no earlier keys. -/
theorem block_div0 (σ v : Fin 2048 → ℝ) (r : Fin 256) (d w' o' : Fin 256 → EReal) (b : EReal) (hb : b = ⊥)
    (hd : ∀ k : Fin 256, d k = if k ≤ r then (σ ⟨k, by omega⟩ : EReal) else ⊥)
    (hw' : ∀ k : Fin 256, w' k = v ⟨k, by omega⟩) (ho' : ∀ k, o' k = 1) :
    Ideal.div
      (∑ k, w' k * FloatOps.exp2 (F := Ideal) (φ := .f32) (d k - Finset.fold max b (fun k => d k) Finset.univ))
      (∑ k, o' k * FloatOps.exp2 (F := Ideal) (φ := .f32) (d k - Finset.fold max b (fun k => d k) Finset.univ))
    = (att σ v ⟨r, by omega⟩ : EReal) := by
  have h := block_div σ v 0 (by omega) r Fin.elim0 Fin.elim0 Fin.elim0 d w' o' b hb (fun k => k.elim0)
    (fun k => by simpa using hd k) (fun k => k.elim0) (fun k => by simpa using hw' k) (fun k => k.elim0) ho'
  subst hb
  simpa using h

/-- One query of the reference's attention: softmax to the base `e` of `log 2` times the causally masked scores. -/
theorem softmax_sum (σ v : Fin 2048 → ℝ) (q : Fin 2048) (x w : Fin 2048 → EReal) (b : EReal) (hb : b = ⊥)
    (hx : ∀ k, x k = if k ≤ q then ((Real.log 2 * σ k : ℝ) : EReal) else ⊥) (hw : ∀ k, w k = v k) :
    (∑ k, Ideal.div (Ideal.exp (x k - max b (Finset.fold max b (fun k => x k) Finset.univ)))
        (∑ k, Ideal.exp (x k - max b (Finset.fold max b (fun k => x k) Finset.univ))) * w k)
    = (att σ v q : EReal) := by
  subst hb
  obtain ⟨μ, hμ⟩ := fold_max_real x (fun k => by rw [hx]; split_ifs; exacts [EReal.coe_ne_top _, bot_ne_top]) q
    (by rw [hx, if_pos le_rfl]; exact EReal.coe_ne_bot _)
  have e : ∀ k, Ideal.exp (x k - μ) = ((if k ≤ q then (2 : ℝ) ^ σ k * Real.exp (-μ) else 0 : ℝ) : EReal) := fun k => by
    rw [hx]
    split_ifs
    · rw [← EReal.coe_sub, Ideal.exp_coe, sub_eq_add_neg, Real.exp_add, Real.rpow_def_of_pos two_pos]
    · rw [EReal.bot_sub]; rfl
  have hp := Real.exp_pos (-μ)
  have f1 : (∑ k : Fin 2048, if k ≤ q then (2 : ℝ) ^ σ k * Real.exp (-μ) else 0)
      = (∑ k : Fin 2048, if k ≤ q then (2 : ℝ) ^ σ k else 0) * Real.exp (-μ) := by
    rw [Finset.sum_mul]; exact Finset.sum_congr rfl fun k _ => by split_ifs <;> simp
  have hne := (mul_pos (att_pos σ q) hp).ne'
  simp only [bot_sup_eq, max_bot_left, hμ, e, hw, coe_sum, f1, div_real _ _ hne, ← EReal.coe_mul]
  refine congrArg Real.toEReal ?_
  unfold att
  rw [Finset.sum_div]
  refine Finset.sum_congr rfl fun k _ => ?_
  split_ifs
  · field_simp
  · simp

end Cert.KernelIdeal.Value

end
-- ==== Proof.AttnScores.lean ====
/-
  The scores of a block of queries.
-/
module

public import proofs.«01_k».proof.Proof.Gen.KernelIdeal.Frame
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The causal mask of a diagonal block: key row `k` against the query of column `r`, -/
theorem mask0 (k r : Fin 256) (a b : EReal) :
    Scalar.select (k0_pay8 (ix2 k ⟨r, by omega⟩)) a b = if k ≤ r then a else b := by
  pointwise [k0_pay8]
  rw [WordCmp.cmpi_sge_ofNat (by omega) (by omega), decide_eq_false (by omega)]
  refine (congrArg (fun w => Scalar.select (IntOp.cmpi .sle (BitVec.ofNat 32 k.val) w) a b) (if_neg (by decide))).trans ?_
  rw [WordCmp.cmpi_sle_ofNat (by omega) (by omega)]
  by_cases h : k ≤ r
  · rw [if_pos h, decide_eq_true (Fin.le_def.1 h)]; rfl
  · rw [if_neg h, decide_eq_false fun h' => h (Fin.le_def.2 h')]; rfl

/-- which is the same for the second head's columns. -/
theorem mask1 (k r : Fin 256) (a b : EReal) :
    Scalar.select (k0_pay8 (ix2 k ⟨256 + r, by omega⟩)) a b = if k ≤ r then a else b := by
  have e : IntOp.subi (BitVec.ofNat 32 (256 + r.val)) 256#32 = BitVec.ofNat 32 r.val := by
    revert r; decide +kernel
  pointwise [k0_pay8]
  rw [WordCmp.cmpi_sge_ofNat (by omega) (by omega), decide_eq_true (by omega), e]
  refine (congrArg (fun w => Scalar.select (IntOp.cmpi .sle (BitVec.ofNat 32 k.val) w) a b) (if_pos rfl)).trans ?_
  rw [WordCmp.cmpi_sle_ofNat (by omega) (by omega)]
  by_cases h : k ≤ r
  · rw [if_pos h, decide_eq_true (Fin.le_def.1 h)]; rfl
  · rw [if_neg h, decide_eq_false fun h' => h (Fin.le_def.2 h')]; rfl

/-- The word a gate selects by is true on three rows. -/
theorem gate_word : ∀ (p : Fin 4) (h : Fin 2) (k : Fin 128),
    IntOp.andi (IntOp.cmpi .sge (BitVec.ofNat 32 k) (Scalar.muli 3#32 (Scalar.addi (Scalar.muli 2#32 (BitVec.ofNat 32 p)) (BitVec.ofNat 32 h))))
      (IntOp.cmpi .slt (BitVec.ofNat 32 k)
        (Scalar.addi (Scalar.muli 3#32 (Scalar.addi (Scalar.muli 2#32 (BitVec.ofNat 32 p)) (BitVec.ofNat 32 h))) 3#32))
    = if 3 * (2 * (p : ℕ) + h) ≤ k ∧ (k : ℕ) < 3 * (2 * (p : ℕ) + h) + 3 then 1#1 else 0#1 := by
  decide +kernel

/-- The rows the first head's gate picks: its three lanes. -/
theorem gate0 (j : grid0.Coords) (p : Fin 4) (hp : (j 1 : ℕ) = p) (k : Fin 128) (r : Fin 256) :
    k0_pay11 (F := Ideal) (iota Kind.tc S128x256 32 [0] iota_S128x256_d0_w32)
            (Scalar.muli (3#32) (Scalar.addi (Scalar.muli (2#32) (BitVec.ofNat 32 ↑(j 1))) 0#32))
            (k0_pay10 j) (ix2 k r) = if 3 * (2 * (p : ℕ)) ≤ k ∧ (k : ℕ) < 3 * (2 * (p : ℕ)) + 3 then 1 else 0 := by
  pointwise [k0_pay11, k0_pay10]
  rw [hp]
  refine (congrArg (fun w => Scalar.select w (1 : EReal) 0) (gate_word p 0 k)).trans ?_
  simp only [Fin.val_zero, add_zero]
  split_ifs <;> rfl

/-- The rows the second head's gate picks: its three lanes. -/
theorem gate1 (j : grid0.Coords) (p : Fin 4) (hp : (j 1 : ℕ) = p) (k : Fin 128) (r : Fin 256) :
    k0_pay12 (F := Ideal) (BitVec.ofNat 32 ↑(j 1)) (iota Kind.tc S128x256 32 [0] iota_S128x256_d0_w32)
            (ix2 k r) = if 3 * (2 * (p : ℕ) + 1) ≤ k ∧ (k : ℕ) < 3 * (2 * (p : ℕ) + 1) + 3 then 1 else 0 := by
  pointwise [k0_pay12]
  rw [hp]
  refine (congrArg (fun w => Scalar.select w (1 : EReal) 0) (gate_word p 1 k)).trans ?_
  simp only [Fin.val_one]
  split_ifs <;> rfl

/-- A sum over 256 lanes, cut where the stacked operand's pieces begin. -/
theorem sum_lanes (f : Fin 256 → EReal) : ∑ x, f x
    = ((∑ i : Fin 64, f ⟨i, by omega⟩) + ∑ i : Fin 64, f ⟨64 + i, by omega⟩) + ∑ i : Fin 128, f ⟨128 + i, by omega⟩ := by
  have h := Fin.sum_univ_add (a := 64 + 64) (b := 128) f
  rw [Fin.sum_univ_add (fun i : Fin (64 + 64) => f (Fin.castAdd 128 i))] at h
  exact h

/-- The three lanes a gate picks. -/
theorem sum_gate (f : Fin 128 → EReal) (n : ℕ) (hn : n + 3 ≤ 128) :
    (∑ i : Fin 128, f i * (if n ≤ (i : ℕ) ∧ (i : ℕ) < n + 3 then 1 else 0)) = ∑ i : Fin 3, f ⟨n + i, by omega⟩ := by
  rw [← Finset.sum_subset (Finset.subset_univ (Finset.univ.image fun i : Fin 3 => (⟨n + i, by omega⟩ : Fin 128)))]
  · rw [Finset.sum_image fun a _ b _ h => by simpa [Fin.ext_iff] using h]
    refine Finset.sum_congr rfl fun i _ => ?_
    rw [if_pos ⟨by simp, by simp⟩, mul_one]
  · intro i _ hi
    rw [if_neg fun h => hi (Finset.mem_image.2 ⟨⟨i - n, by omega⟩, Finset.mem_univ _, by ext; simp; omega⟩), mul_zero]

/-- A row of keys and gate lanes against the queries and the gate stacked over each other: the product of the key with the
    query, plus the three lanes of the gate. -/
theorem lanes (K Q : Fin 64 → ℝ) (D : Fin 128 → ℝ) (n : ℕ) (hn : n + 3 ≤ 128) :
    ((∑ i, (K i : EReal) * Q i) + ∑ i : Fin 128, (D i : EReal) * (if n ≤ (i : ℕ) ∧ (i : ℕ) < n + 3 then 1 else 0))
    = ((∑ i, K i * Q i) + ∑ i : Fin 3, D ⟨n + i, by omega⟩ : ℝ) := by
  rw [sum_gate (fun i => (D i : EReal)) n hn, coe_sum]
  simp only [← EReal.coe_mul]
  rw [coe_sum, EReal.coe_add]

/-- The score of a key row `K` (the keys of the two heads, then the gate lanes) against a query row `Q` for the first head of
    pair `p`, -/
def sc0 (p : Fin 4) (Q : Fin 128 → ℝ) (K : Fin 256 → ℝ) : ℝ :=
  (∑ i : Fin 64, K ⟨i, by omega⟩ * Q ⟨i, by omega⟩) + ∑ i : Fin 3, K ⟨128 + (3 * (2 * (p : ℕ)) + i), by omega⟩

/-- and for its second head. -/
def sc1 (p : Fin 4) (Q : Fin 128 → ℝ) (K : Fin 256 → ℝ) : ℝ :=
  (∑ i : Fin 64, K ⟨64 + i, by omega⟩ * Q ⟨64 + i, by omega⟩) + ∑ i : Fin 3, K ⟨128 + (3 * (2 * (p : ℕ) + 1) + i), by omega⟩

/-- The stacked lanes add up to the first head's score, -/
theorem lanes0 (p : Fin 4) (Q : Fin 128 → ℝ) (K : Fin 256 → ℝ) (f : Fin 256 → EReal)
    (h0 : ∀ i : Fin 64, f ⟨i, by omega⟩ = (K ⟨i, by omega⟩ : EReal) * Q ⟨i, by omega⟩)
    (h1 : ∀ i : Fin 64, f ⟨64 + i, by omega⟩ = 0)
    (h2 : ∀ i : Fin 128, f ⟨128 + i, by omega⟩
      = (K ⟨128 + i, by omega⟩ : EReal) * (if 3 * (2 * (p : ℕ)) ≤ i ∧ (i : ℕ) < 3 * (2 * (p : ℕ)) + 3 then 1 else 0)) :
    ∑ x, f x = (sc0 p Q K : EReal) := by
  rw [sum_lanes]
  simp only [h0, h1, h2, Finset.sum_const_zero, add_zero]
  exact lanes (fun i => K ⟨i, by omega⟩) (fun i => Q ⟨i, by omega⟩) (fun i => K ⟨128 + i, by omega⟩) _ (by omega)

/-- or the second's. -/
theorem lanes1 (p : Fin 4) (Q : Fin 128 → ℝ) (K : Fin 256 → ℝ) (f : Fin 256 → EReal)
    (h0 : ∀ i : Fin 64, f ⟨i, by omega⟩ = 0)
    (h1 : ∀ i : Fin 64, f ⟨64 + i, by omega⟩ = (K ⟨64 + i, by omega⟩ : EReal) * Q ⟨64 + i, by omega⟩)
    (h2 : ∀ i : Fin 128, f ⟨128 + i, by omega⟩
      = (K ⟨128 + i, by omega⟩ : EReal) * (if 3 * (2 * (p : ℕ) + 1) ≤ i ∧ (i : ℕ) < 3 * (2 * (p : ℕ) + 1) + 3 then 1 else 0)) :
    ∑ x, f x = (sc1 p Q K : EReal) := by
  rw [sum_lanes]
  simp only [h0, h1, h2, Finset.sum_const_zero, zero_add]
  exact lanes (fun i => K ⟨64 + i, by omega⟩) (fun i => Q ⟨64 + i, by omega⟩) (fun i => K ⟨128 + i, by omega⟩) _ (by omega)

/-- A gate of the head `h` of pair `p`: one on the head's three lanes, zero on the others. -/
def IsGate (p : Fin 4) (h : ℕ) (g : FVec Ideal S128x256 .bf16) : Prop :=
  ∀ (k : Fin 128) (r : Fin 256), g (ix2 k r) = if 3 * (2 * (p : ℕ) + h) ≤ k ∧ (k : ℕ) < 3 * (2 * (p : ℕ) + h) + 3 then 1 else 0

/-- Column `r` of a head's half of a score block holds the scores of the first `n` keys. -/
def IsScores (n : ℕ) (hn : n ≤ 2048) (r : Fin 256) (σ0 σ1 : Fin 2048 → ℝ) (st : FVec Ideal ⟨2, ![n, 512]⟩ .f32) : Prop :=
  (∀ k : Fin n, st (ix2 k ⟨r, by omega⟩) = σ0 ⟨k, by omega⟩) ∧ ∀ k : Fin n, st (ix2 k ⟨256 + r, by omega⟩) = σ1 ⟨k, by omega⟩

/-- A lane of the stacked operand of either head. -/
theorem not_lt_key (i : ℕ) : ¬ 128 + i < 64 := by omega

/-- A lane of the stacked operand of either head. -/
theorem not_lt_key' (i : ℕ) : ¬ 128 + i - 64 < 64 := by omega

variable {p : Fin 4} {Q : Fin 128 → ℝ} {K : Fin 2048 → Fin 256 → ℝ} {r : Fin 256}

/-- The score block of query block 0. -/
theorem score0 (q : FVec Ideal S256x128 .bf16) (kx : FVec Ideal S256x256 .bf16) (a1 v19 v31 v32)
    (hg0 : IsGate p 0 (k0_pay11 v19 v31 v32)) (hg1 : IsGate p 1 (k0_pay12 a1 v19))
    (hq : ∀ l, q (ix2 r l) = Q l) (hk : ∀ k l, kx (ix2 k l) = K ⟨k, by omega⟩ l) :
    IsScores 256 (by omega) r (fun k => sc0 p Q (K k)) (fun k => sc1 p Q (K k)) (k0_pay13 (F := Ideal) a1 v19 k0_pay9 v31 v32 q kx) := by
  constructor <;> intro k <;> pointwise [k0_pay13, k0_pay9] <;> simp only [hq, hk, hg0 _ _, hg1 _ _]
  · refine lanes0 p Q _ _ (fun i => ?_) (fun i => ?_) (fun i => ?_)
    all_goals simp [Nat.sub_sub, not_lt_key, not_lt_key']
  · refine lanes1 p Q _ _ (fun i => ?_) (fun i => ?_) (fun i => ?_)
    all_goals simp [Nat.sub_sub, not_lt_key, not_lt_key']

/-- The score block of query block 1. -/
theorem score1 (q : FVec Ideal S256x128 .bf16) (kx : FVec Ideal S512x256 .bf16) (a1 v19 v31 v32)
    (hg0 : IsGate p 0 (k0_pay11 v19 v31 v32)) (hg1 : IsGate p 1 (k0_pay12 a1 v19))
    (hq : ∀ l, q (ix2 r l) = Q l) (hk : ∀ k l, kx (ix2 k l) = K ⟨k, by omega⟩ l) :
    IsScores 512 (by omega) r (fun k => sc0 p Q (K k)) (fun k => sc1 p Q (K k)) (k0_pay15 (F := Ideal) (k0_pay14 a1 v19 k0_pay9 v31 v32 q) kx) := by
  constructor <;> intro k <;> pointwise [k0_pay15, k0_pay14, k0_pay9] <;> simp only [hq, hk, hg0 _ _, hg1 _ _]
  · refine lanes0 p Q _ _ (fun i => ?_) (fun i => ?_) (fun i => ?_)
    all_goals simp [Nat.sub_sub, not_lt_key, not_lt_key']
  · refine lanes1 p Q _ _ (fun i => ?_) (fun i => ?_) (fun i => ?_)
    all_goals simp [Nat.sub_sub, not_lt_key, not_lt_key']

/-- The score block of query block 2. -/
theorem score2 (q : FVec Ideal S256x128 .bf16) (kx : FVec Ideal S768x256 .bf16) (g0 g1 : FVec Ideal S128x256 .bf16)
    (hg0 : IsGate p 0 g0) (hg1 : IsGate p 1 g1)
    (hq : ∀ l, q (ix2 r l) = Q l) (hk : ∀ k l, kx (ix2 k l) = K ⟨k, by omega⟩ l) :
    IsScores 768 (by omega) r (fun k => sc0 p Q (K k)) (fun k => sc1 p Q (K k)) (k0_pay16 (F := Ideal) k0_pay9 g0 g1 q kx) := by
  constructor <;> intro k <;> pointwise [k0_pay16, k0_pay9] <;> simp only [hq, hk, hg0 _ _, hg1 _ _]
  · refine lanes0 p Q _ _ (fun i => ?_) (fun i => ?_) (fun i => ?_)
    all_goals simp [Nat.sub_sub, not_lt_key, not_lt_key']
  · refine lanes1 p Q _ _ (fun i => ?_) (fun i => ?_) (fun i => ?_)
    all_goals simp [Nat.sub_sub, not_lt_key, not_lt_key']

/-- The score block of query block 3. -/
theorem score3 (q : FVec Ideal S256x128 .bf16) (kx : FVec Ideal S1024x256 .bf16) (g0 g1 : FVec Ideal S128x256 .bf16)
    (hg0 : IsGate p 0 g0) (hg1 : IsGate p 1 g1)
    (hq : ∀ l, q (ix2 r l) = Q l) (hk : ∀ k l, kx (ix2 k l) = K ⟨k, by omega⟩ l) :
    IsScores 1024 (by omega) r (fun k => sc0 p Q (K k)) (fun k => sc1 p Q (K k)) (k0_pay18 (F := Ideal) k0_pay9 g0 g1 q kx) := by
  constructor <;> intro k <;> pointwise [k0_pay18, k0_pay9] <;> simp only [hq, hk, hg0 _ _, hg1 _ _]
  · refine lanes0 p Q _ _ (fun i => ?_) (fun i => ?_) (fun i => ?_)
    all_goals simp [Nat.sub_sub, not_lt_key, not_lt_key']
  · refine lanes1 p Q _ _ (fun i => ?_) (fun i => ?_) (fun i => ?_)
    all_goals simp [Nat.sub_sub, not_lt_key, not_lt_key']

/-- The score block of query block 4. -/
theorem score4 (q : FVec Ideal S256x128 .bf16) (kx : FVec Ideal S1280x256 .bf16) (g0 g1 : FVec Ideal S128x256 .bf16)
    (hg0 : IsGate p 0 g0) (hg1 : IsGate p 1 g1)
    (hq : ∀ l, q (ix2 r l) = Q l) (hk : ∀ k l, kx (ix2 k l) = K ⟨k, by omega⟩ l) :
    IsScores 1280 (by omega) r (fun k => sc0 p Q (K k)) (fun k => sc1 p Q (K k)) (k0_pay25 (F := Ideal) k0_pay9 g0 g1 q kx) := by
  constructor <;> intro k <;> pointwise [k0_pay25, k0_pay9] <;> simp only [hq, hk, hg0 _ _, hg1 _ _]
  · refine lanes0 p Q _ _ (fun i => ?_) (fun i => ?_) (fun i => ?_)
    all_goals simp [Nat.sub_sub, not_lt_key, not_lt_key']
  · refine lanes1 p Q _ _ (fun i => ?_) (fun i => ?_) (fun i => ?_)
    all_goals simp [Nat.sub_sub, not_lt_key, not_lt_key']

/-- The score block of query block 5. -/
theorem score5 (q : FVec Ideal S256x128 .bf16) (kx : FVec Ideal S1536x256 .bf16) (g0 g1 : FVec Ideal S128x256 .bf16)
    (hg0 : IsGate p 0 g0) (hg1 : IsGate p 1 g1)
    (hq : ∀ l, q (ix2 r l) = Q l) (hk : ∀ k l, kx (ix2 k l) = K ⟨k, by omega⟩ l) :
    IsScores 1536 (by omega) r (fun k => sc0 p Q (K k)) (fun k => sc1 p Q (K k)) (k0_pay29 (F := Ideal) k0_pay9 g0 g1 q kx) := by
  constructor <;> intro k <;> pointwise [k0_pay29, k0_pay9] <;> simp only [hq, hk, hg0 _ _, hg1 _ _]
  · refine lanes0 p Q _ _ (fun i => ?_) (fun i => ?_) (fun i => ?_)
    all_goals simp [Nat.sub_sub, not_lt_key, not_lt_key']
  · refine lanes1 p Q _ _ (fun i => ?_) (fun i => ?_) (fun i => ?_)
    all_goals simp [Nat.sub_sub, not_lt_key, not_lt_key']

/-- The score block of query block 6. -/
theorem score6 (q : FVec Ideal S256x128 .bf16) (kx : FVec Ideal S1792x256 .bf16) (g0 g1 : FVec Ideal S128x256 .bf16)
    (hg0 : IsGate p 0 g0) (hg1 : IsGate p 1 g1)
    (hq : ∀ l, q (ix2 r l) = Q l) (hk : ∀ k l, kx (ix2 k l) = K ⟨k, by omega⟩ l) :
    IsScores 1792 (by omega) r (fun k => sc0 p Q (K k)) (fun k => sc1 p Q (K k)) (k0_pay34 (F := Ideal) k0_pay9 g0 g1 q kx) := by
  constructor <;> intro k <;> pointwise [k0_pay34, k0_pay9] <;> simp only [hq, hk, hg0 _ _, hg1 _ _]
  · refine lanes0 p Q _ _ (fun i => ?_) (fun i => ?_) (fun i => ?_)
    all_goals simp [Nat.sub_sub, not_lt_key, not_lt_key']
  · refine lanes1 p Q _ _ (fun i => ?_) (fun i => ?_) (fun i => ?_)
    all_goals simp [Nat.sub_sub, not_lt_key, not_lt_key']

/-- The score block of query block 7. -/
theorem score7 (q : FVec Ideal S256x128 .bf16) (kx : FVec Ideal S2048x256 .bf16) (g0 g1 : FVec Ideal S128x256 .bf16)
    (hg0 : IsGate p 0 g0) (hg1 : IsGate p 1 g1)
    (hq : ∀ l, q (ix2 r l) = Q l) (hk : ∀ k l, kx (ix2 k l) = K ⟨k, by omega⟩ l) :
    IsScores 2048 (by omega) r (fun k => sc0 p Q (K k)) (fun k => sc1 p Q (K k)) (k0_pay37 (F := Ideal) k0_pay9 g0 g1 q kx) := by
  constructor <;> intro k <;> pointwise [k0_pay37, k0_pay9] <;> simp only [hq, hk, hg0 _ _, hg1 _ _]
  · refine lanes0 p Q _ _ (fun i => ?_) (fun i => ?_) (fun i => ?_)
    all_goals simp [Nat.sub_sub, not_lt_key, not_lt_key']
  · refine lanes1 p Q _ _ (fun i => ?_) (fun i => ?_) (fun i => ?_)
    all_goals simp [Nat.sub_sub, not_lt_key, not_lt_key']

end Cert.KernelIdeal.Value

end
-- ==== Proof.AttnBlocks.lean ====
/-
  The blocks the attention reads at a point of its grid.
-/
module

public import proofs.«01_k».proof.Proof.Gen.KernelIdeal.Frame
public import proofs.«01_k».proof.Proof.AttnScores
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The word the reductions start from is minus infinity, -/
theorem minus_inf : Ideal.ofBits .f32 4286578688#32 = ⊥ := by simp [Ideal.ofBits, Ideal.ieee]
/-- and so is the mask, as the idealization names it. -/
theorem mask_bot : Named.named (F := Ideal) κ "mask" (φ := .f32) 4048155338#32 = ⊥ :=
  IdealRules.named_const.ideal_named_scalar _ _ _ _ rfl

/-- `block_div` in the form the kernel's blocks take at one column. -/
theorem block_eq (σ v : Fin 2048 → ℝ) (q0 : ℕ) (hq : q0 + 256 ≤ 2048) (r : Fin 256) :
    Ideal.div
      ((∑ k : Fin q0, (v ⟨k, by omega⟩ : EReal) * FloatOps.exp2 (F := Ideal) (φ := .f32) ((σ ⟨k, by omega⟩ : EReal)
          - max (Finset.fold max (Ideal.ofBits .f32 4286578688#32)
              (fun k : Fin 256 => if k ≤ r then (σ ⟨q0 + k, by omega⟩ : EReal) else Named.named (F := Ideal) κ "mask" (φ := .f32) 4048155338#32) Finset.univ)
            (Finset.fold max (Ideal.ofBits .f32 4286578688#32) (fun k : Fin q0 => (σ ⟨k, by omega⟩ : EReal)) Finset.univ)))
        + ∑ k : Fin 256, (v ⟨q0 + k, by omega⟩ : EReal) * FloatOps.exp2 (F := Ideal) (φ := .f32)
          ((if k ≤ r then (σ ⟨q0 + k, by omega⟩ : EReal) else Named.named (F := Ideal) κ "mask" (φ := .f32) 4048155338#32)
          - max (Finset.fold max (Ideal.ofBits .f32 4286578688#32)
              (fun k : Fin 256 => if k ≤ r then (σ ⟨q0 + k, by omega⟩ : EReal) else Named.named (F := Ideal) κ "mask" (φ := .f32) 4048155338#32) Finset.univ)
            (Finset.fold max (Ideal.ofBits .f32 4286578688#32) (fun k : Fin q0 => (σ ⟨k, by omega⟩ : EReal)) Finset.univ)))
      ((∑ k : Fin q0, 1 * FloatOps.exp2 (F := Ideal) (φ := .f32) ((σ ⟨k, by omega⟩ : EReal)
          - max (Finset.fold max (Ideal.ofBits .f32 4286578688#32)
              (fun k : Fin 256 => if k ≤ r then (σ ⟨q0 + k, by omega⟩ : EReal) else Named.named (F := Ideal) κ "mask" (φ := .f32) 4048155338#32) Finset.univ)
            (Finset.fold max (Ideal.ofBits .f32 4286578688#32) (fun k : Fin q0 => (σ ⟨k, by omega⟩ : EReal)) Finset.univ)))
        + ∑ k : Fin 256, 1 * FloatOps.exp2 (F := Ideal) (φ := .f32)
          ((if k ≤ r then (σ ⟨q0 + k, by omega⟩ : EReal) else Named.named (F := Ideal) κ "mask" (φ := .f32) 4048155338#32)
          - max (Finset.fold max (Ideal.ofBits .f32 4286578688#32)
              (fun k : Fin 256 => if k ≤ r then (σ ⟨q0 + k, by omega⟩ : EReal) else Named.named (F := Ideal) κ "mask" (φ := .f32) 4048155338#32) Finset.univ)
            (Finset.fold max (Ideal.ofBits .f32 4286578688#32) (fun k : Fin q0 => (σ ⟨k, by omega⟩ : EReal)) Finset.univ)))
    = (att σ v ⟨q0 + r, by omega⟩ : EReal) :=
  block_div σ v q0 hq r (fun k => (σ ⟨k, by omega⟩ : EReal)) (fun k => (v ⟨k, by omega⟩ : EReal)) (fun _ => 1)
    (fun k => if k ≤ r then (σ ⟨q0 + k, by omega⟩ : EReal) else Named.named (F := Ideal) κ "mask" (φ := .f32) 4048155338#32)
    (fun k => (v ⟨q0 + k, by omega⟩ : EReal)) (fun _ => 1) (Ideal.ofBits .f32 4286578688#32) minus_inf (fun _ => rfl)
    (fun k => by rw [mask_bot]) (fun _ => rfl) (fun _ => rfl) (fun _ => rfl) (fun _ => rfl)

/-- The same for the first block. -/
theorem block_eq0 (σ v : Fin 2048 → ℝ) (r : Fin 256) :
    Ideal.div
      (∑ k : Fin 256, (v ⟨k, by omega⟩ : EReal) * FloatOps.exp2 (F := Ideal) (φ := .f32)
        ((if k ≤ r then (σ ⟨k, by omega⟩ : EReal) else Named.named (F := Ideal) κ "mask" (φ := .f32) 4048155338#32)
          - Finset.fold max (Ideal.ofBits .f32 4286578688#32) (fun k : Fin 256 => if k ≤ r then (σ ⟨k, by omega⟩ : EReal) else Named.named (F := Ideal) κ "mask" (φ := .f32) 4048155338#32) Finset.univ))
      (∑ k : Fin 256, 1 * FloatOps.exp2 (F := Ideal) (φ := .f32)
        ((if k ≤ r then (σ ⟨k, by omega⟩ : EReal) else Named.named (F := Ideal) κ "mask" (φ := .f32) 4048155338#32)
          - Finset.fold max (Ideal.ofBits .f32 4286578688#32) (fun k : Fin 256 => if k ≤ r then (σ ⟨k, by omega⟩ : EReal) else Named.named (F := Ideal) κ "mask" (φ := .f32) 4048155338#32) Finset.univ))
    = (att σ v ⟨r, by omega⟩ : EReal) :=
  block_div0 σ v r (fun k => if k ≤ r then (σ ⟨k, by omega⟩ : EReal) else Named.named (F := Ideal) κ "mask" (φ := .f32) 4048155338#32)
    (fun k => (v ⟨k, by omega⟩ : EReal)) (fun _ => 1) (Ideal.ofBits .f32 4286578688#32) minus_inf
    (fun k => by rw [mask_bot]) (fun _ => rfl) (fun _ => rfl)

variable {r : Fin 256} {σ0 σ1 : Fin 2048 → ℝ} {v0 v1 : Fin 64 → Fin 2048 → ℝ}

/-- The first `n` columns of a head's scratch rows: the values of its 64 lanes, and a row of ones. -/
def IsVals (n : ℕ) (hn : n ≤ 2048) (v : Fin 64 → Fin 2048 → ℝ) (w : FVec Ideal ⟨3, ![1, 80, n]⟩ .bf16) : Prop :=
  (∀ (i : ℕ) (h : i < 64) (k : Fin n), w (ix3 0 ⟨i, by omega⟩ k) = v ⟨i, h⟩ ⟨k, by omega⟩) ∧ ∀ k, w (ix3 0 64 k) = 1

/-- The pair's attention of query `q`: in the first 64 lanes the first head's, in the others the second's. -/
def pairAtt (σ0 σ1 : Fin 2048 → ℝ) (v0 v1 : Fin 64 → Fin 2048 → ℝ) (q : Fin 2048) (l : Fin 128) : EReal :=
  if h : (l : ℕ) < 64 then (att σ0 (v0 ⟨l, h⟩) q : EReal) else (att σ1 (v1 ⟨l - 64, by omega⟩) q : EReal)

set_option maxHeartbeats 1600000 in
/-- What the kernel stores for query block 0. -/
theorem out0 (st : FVec Ideal S256x512 .f32) (w0 w1 : FVec Ideal S1x80x256 .bf16) (hs : IsScores 256 (by omega) r σ0 σ1 st)
    (hw0 : IsVals 256 (by omega) v0 w0) (hw1 : IsVals 256 (by omega) v1 w1) (l : Fin 128) :
    k0_pay17 (F := Ideal) k0_pay8 st w0 w1 (ix2 r l)
    = pairAtt σ0 σ1 v0 v1 ⟨r, by omega⟩ l := by
  obtain ⟨⟨hs0, hs1⟩, ⟨hv0, ho0⟩, hv1, ho1⟩ := And.intro hs (And.intro hw0 hw1)
  pointwise [k0_pay17, pairAtt]
  by_cases h : (l : ℕ) < 64
  · rw [dif_pos h, dif_pos h]
    simp only [mask0, hs0, ho0, hv0 _ h]
    exact block_eq0 _ _ r
  · rw [dif_neg h, dif_neg h]
    have h' : (l : ℕ) - 64 < 64 := by omega
    simp only [hv1 _ h']
    simp only [mask1, hs1, ho1]
    exact block_eq0 _ _ r

set_option maxHeartbeats 1600000 in
/-- What the kernel stores for query block 1. -/
theorem out1 (st : FVec Ideal S512x512 .f32) (w0 w1 : FVec Ideal S1x80x512 .bf16) (hs : IsScores 512 (by omega) r σ0 σ1 st)
    (hw0 : IsVals 512 (by omega) v0 w0) (hw1 : IsVals 512 (by omega) v1 w1) (l : Fin 128) :
    k0_pay24 (F := Ideal) (k0_pay20 k0_pay8 st w0) (k0_pay22 k0_pay8 st w1) (k0_pay23 k0_pay8 st w1) (ix2 r l)
    = pairAtt σ0 σ1 v0 v1 ⟨256 + r, by omega⟩ l := by
  obtain ⟨⟨hs0, hs1⟩, ⟨hv0, ho0⟩, hv1, ho1⟩ := And.intro hs (And.intro hw0 hw1)
  pointwise [k0_pay24, k0_pay20, k0_pay22, k0_pay23, k0_pay21, k0_pay19, pairAtt]
  by_cases h : (l : ℕ) < 64
  · rw [dif_pos h, dif_pos h]
    simp only [mask0, hs0, ho0, hv0 _ h]
    exact block_eq _ _ 256 (by omega) r
  · rw [dif_neg h, dif_neg h]
    have h' : (l : ℕ) - 64 < 64 := by omega
    simp only [hv1 _ h']
    simp only [mask1, hs1, ho1]
    exact block_eq _ _ 256 (by omega) r

set_option maxHeartbeats 1600000 in
/-- What the kernel stores for query block 2. -/
theorem out2 (st : FVec Ideal S768x512 .f32) (w0 w1 : FVec Ideal S1x80x768 .bf16) (hs : IsScores 768 (by omega) r σ0 σ1 st)
    (hw0 : IsVals 768 (by omega) v0 w0) (hw1 : IsVals 768 (by omega) v1 w1) (l : Fin 128) :
    k0_pay28 (F := Ideal) (k0_pay26 k0_pay8 st) (k0_pay27 k0_pay8 st w0) w1 (ix2 r l)
    = pairAtt σ0 σ1 v0 v1 ⟨512 + r, by omega⟩ l := by
  obtain ⟨⟨hs0, hs1⟩, ⟨hv0, ho0⟩, hv1, ho1⟩ := And.intro hs (And.intro hw0 hw1)
  pointwise [k0_pay28, k0_pay27, k0_pay26, pairAtt]
  by_cases h : (l : ℕ) < 64
  · rw [dif_pos h, dif_pos h]
    simp only [mask0, hs0, ho0, hv0 _ h]
    exact block_eq _ _ 512 (by omega) r
  · rw [dif_neg h, dif_neg h]
    have h' : (l : ℕ) - 64 < 64 := by omega
    simp only [hv1 _ h']
    simp only [mask1, hs1, ho1]
    exact block_eq _ _ 512 (by omega) r

set_option maxHeartbeats 1600000 in
/-- What the kernel stores for query block 3. -/
theorem out3 (st : FVec Ideal S1024x512 .f32) (w0 w1 : FVec Ideal S1x80x1024 .bf16) (hs : IsScores 1024 (by omega) r σ0 σ1 st)
    (hw0 : IsVals 1024 (by omega) v0 w0) (hw1 : IsVals 1024 (by omega) v1 w1) (l : Fin 128) :
    k0_pay33 (F := Ideal) (k0_pay30 k0_pay8 st) (k0_pay31 w0) (k0_pay32 k0_pay8 st) (constant S80x256 .f32 0#32) w1 (ix2 r l)
    = pairAtt σ0 σ1 v0 v1 ⟨768 + r, by omega⟩ l := by
  obtain ⟨⟨hs0, hs1⟩, ⟨hv0, ho0⟩, hv1, ho1⟩ := And.intro hs (And.intro hw0 hw1)
  pointwise [k0_pay33, k0_pay32, k0_pay31, k0_pay30, pairAtt]
  by_cases h : (l : ℕ) < 64
  · rw [dif_pos h, dif_pos h]
    simp only [mask0, hs0, ho0, hv0 _ h]
    exact block_eq _ _ 768 (by omega) r
  · rw [dif_neg h, dif_neg h]
    have h' : (l : ℕ) - 64 < 64 := by omega
    simp only [hv1 _ h']
    simp only [mask1, hs1, ho1]
    exact block_eq _ _ 768 (by omega) r

set_option maxHeartbeats 1600000 in
/-- What the kernel stores for query block 4. -/
theorem out4 (st : FVec Ideal S1280x512 .f32) (w0 w1 : FVec Ideal S1x80x1280 .bf16) (hs : IsScores 1280 (by omega) r σ0 σ1 st)
    (hw0 : IsVals 1280 (by omega) v0 w0) (hw1 : IsVals 1280 (by omega) v1 w1) (l : Fin 128) :
    k0_pay36 (F := Ideal) (k0_pay35 k0_pay8 st) w0 w1 (ix2 r l)
    = pairAtt σ0 σ1 v0 v1 ⟨1024 + r, by omega⟩ l := by
  obtain ⟨⟨hs0, hs1⟩, ⟨hv0, ho0⟩, hv1, ho1⟩ := And.intro hs (And.intro hw0 hw1)
  pointwise [k0_pay36, k0_pay35, pairAtt]
  by_cases h : (l : ℕ) < 64
  · rw [dif_pos h, dif_pos h]
    simp only [mask0, hs0, ho0, hv0 _ h]
    exact block_eq _ _ 1024 (by omega) r
  · rw [dif_neg h, dif_neg h]
    have h' : (l : ℕ) - 64 < 64 := by omega
    simp only [hv1 _ h']
    simp only [mask1, hs1, ho1]
    exact block_eq _ _ 1024 (by omega) r

set_option maxHeartbeats 1600000 in
/-- What the kernel stores for query block 5. -/
theorem out5 (st : FVec Ideal S1536x512 .f32) (w0 w1 : FVec Ideal S1x80x1536 .bf16) (hs : IsScores 1536 (by omega) r σ0 σ1 st)
    (hw0 : IsVals 1536 (by omega) v0 w0) (hw1 : IsVals 1536 (by omega) v1 w1) (l : Fin 128) :
    k0_pay40 (F := Ideal) st (k0_pay38 k0_pay8 st) (k0_pay39 k0_pay8 st) w0 w1 (ix2 r l)
    = pairAtt σ0 σ1 v0 v1 ⟨1280 + r, by omega⟩ l := by
  obtain ⟨⟨hs0, hs1⟩, ⟨hv0, ho0⟩, hv1, ho1⟩ := And.intro hs (And.intro hw0 hw1)
  pointwise [k0_pay40, k0_pay39, k0_pay38, pairAtt]
  by_cases h : (l : ℕ) < 64
  · rw [dif_pos h, dif_pos h]
    simp only [mask0, hs0, ho0, hv0 _ h]
    exact block_eq _ _ 1280 (by omega) r
  · rw [dif_neg h, dif_neg h]
    have h' : (l : ℕ) - 64 < 64 := by omega
    simp only [hv1 _ h']
    simp only [mask1, hs1, ho1]
    exact block_eq _ _ 1280 (by omega) r

set_option maxHeartbeats 1600000 in
/-- What the kernel stores for query block 6. -/
theorem out6 (st : FVec Ideal S1792x512 .f32) (w0 w1 : FVec Ideal S1x80x1792 .bf16) (hs : IsScores 1792 (by omega) r σ0 σ1 st)
    (hw0 : IsVals 1792 (by omega) v0 w0) (hw1 : IsVals 1792 (by omega) v1 w1) (l : Fin 128) :
    k0_pay42 (F := Ideal) (k0_pay41 k0_pay8 st) w0 w1 (ix2 r l)
    = pairAtt σ0 σ1 v0 v1 ⟨1536 + r, by omega⟩ l := by
  obtain ⟨⟨hs0, hs1⟩, ⟨hv0, ho0⟩, hv1, ho1⟩ := And.intro hs (And.intro hw0 hw1)
  pointwise [k0_pay42, k0_pay41, pairAtt]
  by_cases h : (l : ℕ) < 64
  · rw [dif_pos h, dif_pos h]
    simp only [mask0, hs0, ho0, hv0 _ h]
    exact block_eq _ _ 1536 (by omega) r
  · rw [dif_neg h, dif_neg h]
    have h' : (l : ℕ) - 64 < 64 := by omega
    simp only [hv1 _ h']
    simp only [mask1, hs1, ho1]
    exact block_eq _ _ 1536 (by omega) r

set_option maxHeartbeats 1600000 in
/-- What the kernel stores for query block 7. -/
theorem out7 (st : FVec Ideal S2048x512 .f32) (w0 w1 : FVec Ideal S1x80x2048 .bf16) (hs : IsScores 2048 (by omega) r σ0 σ1 st)
    (hw0 : IsVals 2048 (by omega) v0 w0) (hw1 : IsVals 2048 (by omega) v1 w1) (l : Fin 128) :
    k0_pay1 (F := Ideal) (k0_pay43 k0_pay8 st) (k0_pay44 w0) (k0_pay45 k0_pay8 st) (constant S80x256 .f32 0#32) w1 (ix2 r l)
    = pairAtt σ0 σ1 v0 v1 ⟨1792 + r, by omega⟩ l := by
  obtain ⟨⟨hs0, hs1⟩, ⟨hv0, ho0⟩, hv1, ho1⟩ := And.intro hs (And.intro hw0 hw1)
  pointwise [k0_pay1, k0_pay45, k0_pay44, k0_pay43, pairAtt]
  by_cases h : (l : ℕ) < 64
  · rw [dif_pos h, dif_pos h]
    simp only [mask0, hs0, ho0, hv0 _ h]
    exact block_eq _ _ 1792 (by omega) r
  · rw [dif_neg h, dif_neg h]
    have h' : (l : ℕ) - 64 < 64 := by omega
    simp only [hv1 _ h']
    simp only [mask1, hs1, ho1]
    exact block_eq _ _ 1792 (by omega) r

end Cert.KernelIdeal.Value

end
-- ==== Proof.AttnValue.lean ====
/-
  The forgetting attention: every grid point leaves the attention of its batch row and head pair, so the kernel's result
  is the attention of its three arguments, where these hold real numbers.
-/
module

public import proofs.«01_k».proof.Proof.AttnBlocks
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The word of the rows of ones is one. -/
theorem one_word : Ideal.ofBits .bf16 16256#16 = 1 := by
  simp [Ideal.ofBits, Ideal.ieee]
  rw [← EReal.coe_mul, ← EReal.coe_one]
  norm_num

/-- The first head's values, transposed, -/
theorem val4 (X : FVec Ideal S2048x128 .bf16) (z : Fin 1) (i : Fin 64) (k : Fin 2048) :
    k0_pay4 (F := Ideal) X (ix3 z i k) = X (ix2 k ⟨i, by omega⟩) := by
  pointwise [k0_pay4, k0_pay2]

/-- the second's, -/
theorem val6 (X : FVec Ideal S2048x128 .bf16) (z : Fin 1) (i : Fin 64) (k : Fin 2048) :
    k0_pay6 (F := Ideal) X (ix3 z i k) = X (ix2 k ⟨64 + i, by omega⟩) := by
  pointwise [k0_pay6, k0_pay2]

/-- and the ones under them. -/
theorem val5 (z : Fin 1) (i : Fin 16) (k : Fin 2048) : k0_pay5 (F := Ideal) (ix3 z i k) = 1 := by
  pointwise [k0_pay5, k0_pay3, one_word]

/-- and the ones under them. -/
theorem val7 (z : Fin 1) (i : Fin 16) (k : Fin 2048) : k0_pay7 (F := Ideal) (ix3 z i k) = 1 := by
  pointwise [k0_pay7, k0_pay3, one_word]

/-- The rows the kernel reads back for a pair's first head: the head's values over the ones, -/
theorem vals0 (V : View sig .tc .vmem S2x80x2048 .bf16) (n : ℕ) (hn : n ≤ 2048) (X : FVec Ideal S2048x128 .bf16) (v : Fin 64 → Fin 2048 → ℝ)
    (hv : ∀ (i : ℕ) (h : i < 64) (k : Fin 2048), X (ix2 k ⟨i, by omega⟩) = v ⟨i, h⟩ k) (i0 i1 i2 i3 i4) :
    IsVals n hn v (View.readCov (Val := Elt Ideal) V
      [⟨Rect.unit ![1, 64, 0] ![1, 16, 2048] i0, k0_pay7 (F := Ideal)⟩, ⟨Rect.unit ![1, 0, 0] ![1, 64, 2048] i1, k0_pay6 (F := Ideal) X⟩,
        ⟨Rect.unit ![0, 64, 0] ![1, 16, 2048] i2, k0_pay5 (F := Ideal)⟩, ⟨Rect.unit ![0, 0, 0] ![1, 64, 2048] i3, k0_pay4 (F := Ideal) X⟩]
      (Rect.unit (s := S2x80x2048) ![0, 0, 0] ![1, 80, n] i4).toLoadRect) := by
  rw [View.readCov_eq_canon']
  constructor
  · intro i hi k
    have hm : (Rect.unit (s := S2x80x2048) ![0, 0, 0] ![1, 80, n] i4).idx (ix3 0 ⟨i, by omega⟩ k)
        ∈ (Rect.unit (s := S2x80x2048) ![0, 0, 0] ![1, 64, 2048] i3).set :=
      Rect.mem_set_unit.mpr fun a => by fin_cases a <;> simp <;> omega
    canon_tiles x h using ⟨_, .tail _ (.tail _ (.tail _ (.head _))), hm⟩
    all_goals simp at h0 h1 h2
    all_goals first
      | (exfalso; omega)
      | (refine (congrArg _ (eq_ix3 x)).trans ((val4 X _ _ _).trans ((congrArg X ?_).trans (hv i hi ⟨k, by omega⟩)))
         refine congrArg₂ ix2 (Fin.ext ?_) (Fin.ext ?_) <;> simp <;> omega)
  · intro k
    have hm : (Rect.unit (s := S2x80x2048) ![0, 0, 0] ![1, 80, n] i4).idx (ix3 0 64 k)
        ∈ (Rect.unit (s := S2x80x2048) ![0, 64, 0] ![1, 16, 2048] i2).set :=
      Rect.mem_set_unit.mpr fun a => by fin_cases a <;> simp <;> omega
    canon_tiles x h using ⟨_, .tail _ (.tail _ (.head _)), hm⟩
    all_goals simp at h0 h1 h2
    all_goals first
      | (exfalso; omega)
      | exact (congrArg _ (eq_ix3 x)).trans (val5 _ _ _)

/-- and for its second. -/
theorem vals1 (V : View sig .tc .vmem S2x80x2048 .bf16) (n : ℕ) (hn : n ≤ 2048) (X : FVec Ideal S2048x128 .bf16) (v : Fin 64 → Fin 2048 → ℝ)
    (hv : ∀ (i : ℕ) (h : i < 64) (k : Fin 2048), X (ix2 k ⟨64 + i, by omega⟩) = v ⟨i, h⟩ k) (i0 i1 i2 i3 i4) :
    IsVals n hn v (View.readCov (Val := Elt Ideal) V
      [⟨Rect.unit ![1, 64, 0] ![1, 16, 2048] i0, k0_pay7 (F := Ideal)⟩, ⟨Rect.unit ![1, 0, 0] ![1, 64, 2048] i1, k0_pay6 (F := Ideal) X⟩,
        ⟨Rect.unit ![0, 64, 0] ![1, 16, 2048] i2, k0_pay5 (F := Ideal)⟩, ⟨Rect.unit ![0, 0, 0] ![1, 64, 2048] i3, k0_pay4 (F := Ideal) X⟩]
      (Rect.unit (s := S2x80x2048) ![1, 0, 0] ![1, 80, n] i4).toLoadRect) := by
  rw [View.readCov_eq_canon']
  constructor
  · intro i hi k
    have hm : (Rect.unit (s := S2x80x2048) ![1, 0, 0] ![1, 80, n] i4).idx (ix3 0 ⟨i, by omega⟩ k)
        ∈ (Rect.unit (s := S2x80x2048) ![1, 0, 0] ![1, 64, 2048] i1).set :=
      Rect.mem_set_unit.mpr fun a => by fin_cases a <;> simp <;> omega
    canon_tiles x h using ⟨_, .tail _ (.head  _), hm⟩
    all_goals simp at h0 h1 h2
    all_goals first
      | (exfalso; omega)
      | (refine (congrArg _ (eq_ix3 x)).trans ((val6 X _ _ _).trans ((congrArg X ?_).trans (hv i hi ⟨k, by omega⟩)))
         refine congrArg₂ ix2 (Fin.ext ?_) (Fin.ext ?_) <;> simp <;> omega)
  · intro k
    have hm : (Rect.unit (s := S2x80x2048) ![1, 0, 0] ![1, 80, n] i4).idx (ix3 0 64 k)
        ∈ (Rect.unit (s := S2x80x2048) ![1, 64, 0] ![1, 16, 2048] i0).set :=
      Rect.mem_set_unit.mpr fun a => by fin_cases a <;> simp <;> omega
    canon_tiles x h using ⟨_, .head _, hm⟩
    all_goals simp at h0 h1 h2
    all_goals first
      | (exfalso; omega)
      | exact (congrArg _ (eq_ix3 x)).trans (val7 _ _ _)

/-- Point `t` of the grid works on batch row `t / 4` and on head pair `t % 4`. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, t.val % 4] ∧ (grid0.coords t 1 : ℕ) = t.val % 4 :=
  (by decide +kernel : ∀ t : Fin grid0.N, _)

/-- Row `s` of batch row `b`. -/
def rowOf (b : Fin 32) (s : Fin 2048) : Fin 65536 := ⟨b * 2048 + s, by omega⟩

/-- The lane of a query, a key or a value that the pair `p` holds as its lane `l`, -/
def laneOf (p : Fin 4) (l : Fin 128) : Fin 512 := ⟨p * 128 + l, by omega⟩
/-- and the lane of a key that it holds beside its gate lanes. -/
def laneOf2 (p : Fin 4) (l : Fin 256) : Fin 1024 := ⟨p * 256 + l, by omega⟩

variable (xq : S65536x512.Idx → ℝ) (xk : S65536x1024.Idx → ℝ) (xv : S65536x512.Idx → ℝ)

/-- The queries of head pair `p` at row `s` of batch row `b`, -/
def qRow (b : Fin 32) (p : Fin 4) (s : Fin 2048) (l : Fin 128) : ℝ := xq (ix2 (rowOf b s) (laneOf p l))
/-- its keys and gate lanes there, -/
def kRow (b : Fin 32) (p : Fin 4) (s : Fin 2048) (l : Fin 256) : ℝ := xk (ix2 (rowOf b s) (laneOf2 p l))
/-- the values of its first head, a row per lane, -/
def vHead0 (b : Fin 32) (p : Fin 4) (i : Fin 64) (s : Fin 2048) : ℝ := xv (ix2 (rowOf b s) (laneOf p ⟨i, by omega⟩))
/-- and those of its second. -/
def vHead1 (b : Fin 32) (p : Fin 4) (i : Fin 64) (s : Fin 2048) : ℝ := xv (ix2 (rowOf b s) (laneOf p ⟨64 + i, by omega⟩))

/-- The attention of batch row `b`, head pair `p`, at query `s` and lane `l`, of arrays of real numbers. -/
def pairOut (b : Fin 32) (p : Fin 4) (s : Fin 2048) (l : Fin 128) : EReal :=
  pairAtt (fun k => sc0 p (qRow xq b p s) (kRow xk b p k)) (fun k => sc1 p (qRow xq b p s) (kRow xk b p k)) (vHead0 xv b p) (vHead1 xv b p) s l

/-- The attention of whole arrays of real numbers. -/
def OUT : FVec Ideal S65536x512 .bf16 := fun i =>
  pairOut xq xk xv ⟨(i 0 : ℕ) / 2048, by have : (i 0 : ℕ) < 65536 := (i 0).isLt; omega⟩ ⟨(i 1 : ℕ) / 128, by have : (i 1 : ℕ) < 512 := (i 1).isLt; omega⟩
    ⟨(i 0 : ℕ) % 2048, by omega⟩ ⟨(i 1 : ℕ) % 128, by omega⟩

/-- It at an index of the block of batch row `b` and head pair `p`. -/
theorem out_block (b : Fin 32) (p : Fin 4) (s : Fin 2048) (l : Fin 128) (R : Fin 65536) (L : Fin 512)
    (hR : (R : ℕ) = b * 2048 + s) (hL : (L : ℕ) = p * 128 + l) : OUT xq xk xv (ix2 R L) = pairOut xq xk xv b p s l := by
  have e0 : (⟨R / 2048, by omega⟩ : Fin 32) = b := Fin.ext (by simp; omega)
  have e1 : (⟨L / 128, by omega⟩ : Fin 4) = p := Fin.ext (by simp; omega)
  have e2 : (⟨R % 2048, by omega⟩ : Fin 2048) = s := Fin.ext (by simp; omega)
  have e3 : (⟨L % 128, by omega⟩ : Fin 128) = l := Fin.ext (by simp; omega)
  show pairOut xq xk xv ⟨R / 2048, by omega⟩ ⟨L / 128, by omega⟩ ⟨R % 2048, by omega⟩ ⟨L % 128, by omega⟩ = _
  rw [e0, e1, e2, e3]

set_option maxHeartbeats 1600000 in
/-- What the grid point of batch row `b` and head pair `p` leaves in its block of the result. -/
theorem point (c : Dev nD) (hq : ∀ i, m ((c : Thread nD τ).loc main_arg0) i = (xq i : EReal))
    (hk : ∀ i, m ((c : Thread nD τ).loc main_arg1) i = (xk i : EReal))
    (hv : ∀ i, m ((c : Thread nD τ).loc main_arg2) i = (xv i : EReal))
    (b : Fin 32) (p : Fin 4) (t : Fin cfg0.N) (hb : t.val / 4 = b) (hp : t.val % 4 = p) (y : S2048x128.Idx) :
    outsAt0 (F := Ideal) m c t y = pairOut xq xk xv b p (y 0) (y 1) := by
  have hI : (grid0.coords t 1 : ℕ) = p := (idx t).2.2.2.2.trans hp
  have e0 : ∀ (s : Fin 2048) (l : Fin 128), iblk m c 0 t (ix2 s l) = (qRow xq b p s l : EReal) := fun s l => by
    rw [qRow, ← hq]; blk_point [iblk, V, idx t, rowOf, laneOf, hb, hp]
  have e1 : ∀ (s : Fin 2048) (l : Fin 256), iblk m c 1 t (ix2 s l) = (kRow xk b p s l : EReal) := fun s l => by
    rw [kRow, ← hk]; blk_point [iblk, V, idx t, rowOf, laneOf2, hb, hp]
  have e2 : ∀ (s : Fin 2048) (l : Fin 128), iblk m c 2 t (ix2 s l) = (xv (ix2 (rowOf b s) (laneOf p l)) : EReal) := fun s l => by
    rw [← hv]; blk_point [iblk, V, idx t, rowOf, laneOf, hb, hp]
  have g0 : IsGate p 0 (k0_pay11 (iota Kind.tc S128x256 32 [0] iota_S128x256_d0_w32)
      (Scalar.muli 3#32 (Scalar.addi (Scalar.muli 2#32 (BitVec.ofNat 32 ↑(grid0.coords t 1))) 0#32)) (k0_pay10 (grid0.coords t))) :=
    gate0 (grid0.coords t) p hI
  have g1 : IsGate p 1 (k0_pay12 (BitVec.ofNat 32 ↑(grid0.coords t 1)) (iota Kind.tc S128x256 32 [0] iota_S128x256_d0_w32)) :=
    gate1 (grid0.coords t) p hI
  unfold outsAt0
  frame_out
  canon_tiles x h
  case' piece7 =>
    refine (congrArg _ (eq_ix2 x)).trans ((out0 _ _ _
      (score0 (Q := qRow xq b p (y 0)) (K := kRow xk b p) _ _ _ _ _ _ g0 g1 (fun l => (congrArg (iblk m c 0 t) ?_).trans (e0 (y 0) l))
        fun k l => (congrArg (iblk m c 1 t) ?_).trans (e1 ⟨k, by omega⟩ l))
      (vals0 _ _ _ _ (vHead0 xv b p) (fun i h k => e2 _ _) _ _ _ _ _) (vals1 _ _ _ _ (vHead1 xv b p) (fun i h k => e2 _ _) _ _ _ _ _) (x 1)).trans
      (congrArg₂ (pairAtt _ _ _ _) (Fin.ext ?_) (Fin.ext h1.symm)))
  case' piece6 =>
    refine (congrArg _ (eq_ix2 x)).trans ((out1 _ _ _
      (score1 (Q := qRow xq b p (y 0)) (K := kRow xk b p) _ _ _ _ _ _ g0 g1 (fun l => (congrArg (iblk m c 0 t) ?_).trans (e0 (y 0) l))
        fun k l => (congrArg (iblk m c 1 t) ?_).trans (e1 ⟨k, by omega⟩ l))
      (vals0 _ _ _ _ (vHead0 xv b p) (fun i h k => e2 _ _) _ _ _ _ _) (vals1 _ _ _ _ (vHead1 xv b p) (fun i h k => e2 _ _) _ _ _ _ _) (x 1)).trans
      (congrArg₂ (pairAtt _ _ _ _) (Fin.ext ?_) (Fin.ext h1.symm)))
  case' piece5 =>
    refine (congrArg _ (eq_ix2 x)).trans ((out2 _ _ _
      (score2 (Q := qRow xq b p (y 0)) (K := kRow xk b p) _ _ _ _ g0 g1 (fun l => (congrArg (iblk m c 0 t) ?_).trans (e0 (y 0) l))
        fun k l => (congrArg (iblk m c 1 t) ?_).trans (e1 ⟨k, by omega⟩ l))
      (vals0 _ _ _ _ (vHead0 xv b p) (fun i h k => e2 _ _) _ _ _ _ _) (vals1 _ _ _ _ (vHead1 xv b p) (fun i h k => e2 _ _) _ _ _ _ _) (x 1)).trans
      (congrArg₂ (pairAtt _ _ _ _) (Fin.ext ?_) (Fin.ext h1.symm)))
  case' piece4 =>
    refine (congrArg _ (eq_ix2 x)).trans ((out3 _ _ _
      (score3 (Q := qRow xq b p (y 0)) (K := kRow xk b p) _ _ _ _ g0 g1 (fun l => (congrArg (iblk m c 0 t) ?_).trans (e0 (y 0) l))
        fun k l => (congrArg (iblk m c 1 t) ?_).trans (e1 ⟨k, by omega⟩ l))
      (vals0 _ _ _ _ (vHead0 xv b p) (fun i h k => e2 _ _) _ _ _ _ _) (vals1 _ _ _ _ (vHead1 xv b p) (fun i h k => e2 _ _) _ _ _ _ _) (x 1)).trans
      (congrArg₂ (pairAtt _ _ _ _) (Fin.ext ?_) (Fin.ext h1.symm)))
  case' piece3 =>
    refine (congrArg _ (eq_ix2 x)).trans ((out4 _ _ _
      (score4 (Q := qRow xq b p (y 0)) (K := kRow xk b p) _ _ _ _ g0 g1 (fun l => (congrArg (iblk m c 0 t) ?_).trans (e0 (y 0) l))
        fun k l => (congrArg (iblk m c 1 t) ?_).trans (e1 ⟨k, by omega⟩ l))
      (vals0 _ _ _ _ (vHead0 xv b p) (fun i h k => e2 _ _) _ _ _ _ _) (vals1 _ _ _ _ (vHead1 xv b p) (fun i h k => e2 _ _) _ _ _ _ _) (x 1)).trans
      (congrArg₂ (pairAtt _ _ _ _) (Fin.ext ?_) (Fin.ext h1.symm)))
  case' piece2 =>
    refine (congrArg _ (eq_ix2 x)).trans ((out5 _ _ _
      (score5 (Q := qRow xq b p (y 0)) (K := kRow xk b p) _ _ _ _ g0 g1 (fun l => (congrArg (iblk m c 0 t) ?_).trans (e0 (y 0) l))
        fun k l => (congrArg (iblk m c 1 t) ?_).trans (e1 ⟨k, by omega⟩ l))
      (vals0 _ _ _ _ (vHead0 xv b p) (fun i h k => e2 _ _) _ _ _ _ _) (vals1 _ _ _ _ (vHead1 xv b p) (fun i h k => e2 _ _) _ _ _ _ _) (x 1)).trans
      (congrArg₂ (pairAtt _ _ _ _) (Fin.ext ?_) (Fin.ext h1.symm)))
  case' piece1 =>
    refine (congrArg _ (eq_ix2 x)).trans ((out6 _ _ _
      (score6 (Q := qRow xq b p (y 0)) (K := kRow xk b p) _ _ _ _ g0 g1 (fun l => (congrArg (iblk m c 0 t) ?_).trans (e0 (y 0) l))
        fun k l => (congrArg (iblk m c 1 t) ?_).trans (e1 ⟨k, by omega⟩ l))
      (vals0 _ _ _ _ (vHead0 xv b p) (fun i h k => e2 _ _) _ _ _ _ _) (vals1 _ _ _ _ (vHead1 xv b p) (fun i h k => e2 _ _) _ _ _ _ _) (x 1)).trans
      (congrArg₂ (pairAtt _ _ _ _) (Fin.ext ?_) (Fin.ext h1.symm)))
  case' piece0 =>
    refine (congrArg _ (eq_ix2 x)).trans ((out7 _ _ _
      (score7 (Q := qRow xq b p (y 0)) (K := kRow xk b p) _ _ _ _ g0 g1 (fun l => (congrArg (iblk m c 0 t) ?_).trans (e0 (y 0) l))
        fun k l => (congrArg (iblk m c 1 t) ?_).trans (e1 ⟨k, by omega⟩ l))
      (vals0 _ _ _ _ (vHead0 xv b p) (fun i h k => e2 _ _) _ _ _ _ _) (vals1 _ _ _ _ (vHead1 xv b p) (fun i h k => e2 _ _) _ _ _ _ _) (x 1)).trans
      (congrArg₂ (pairAtt _ _ _ _) (Fin.ext ?_) (Fin.ext h1.symm)))
  all_goals first
    | (refine funext fun a => ?_
       fin_cases a <;> ext <;> simp <;> omega)
    | (simp; omega)

/-- The result array after the run is the attention of the argument arrays. -/
theorem final (c : Dev nD) (hq : ∀ i, m ((c : Thread nD τ).loc main_arg0) i = (xq i : EReal))
    (hk : ∀ i, m ((c : Thread nD τ).loc main_arg1) i = (xk i : EReal))
    (hv : ∀ i, m ((c : Thread nD τ).loc main_arg2) i = (xv i : EReal)) :
    (dats m 0 c).arrAt 3 (cfgs 0).N = OUT xq xk xv := by
  refine (dats m 0 c).arrAt_eq_of_covers 3 _ (by decide +kernel) fun t _ y => ?_
  blk_simp
  rw [after0_3]
  have ht : t.val < 128 := t.isLt
  have hb0 : (y 0 : ℕ) < 2048 := (y 0).isLt
  have hb1 : (y 1 : ℕ) < 128 := (y 1).isLt
  have hi : (ix2 (⟨t.val / 4 * 2048 + (y 0 : ℕ), by omega⟩ : Fin 65536) (⟨t.val % 4 * 128 + (y 1 : ℕ), by omega⟩ : Fin 512))
      = (win0_3.blk t).view.emb y := by
    blk_ext [idx t]
  have h1 := point m xq xk xv c hq hk hv ⟨t.val / 4, by omega⟩ ⟨t.val % 4, by omega⟩ t rfl rfl y
  have h2 := out_block xq xk xv ⟨t.val / 4, by omega⟩ ⟨t.val % 4, by omega⟩ ⟨y 0, hb0⟩ ⟨y 1, hb1⟩
    ⟨t.val / 4 * 2048 + (y 0 : ℕ), by omega⟩ ⟨t.val % 4 * 128 + (y 1 : ℕ), by omega⟩ rfl rfl
  rw [← hi]
  exact h1.trans h2.symm

end Cert.KernelIdeal.Value

end
-- ==== Proof.AttnRef.lean ====
/-
  The reference of the forgetting attention, as its operations compose, and what it computes from arrays of real numbers.
-/
module

public import proofs.«01_k».proof.Proof.AttnValue
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen

/-- Queries, or values, by batch row, head, row and lane, -/
def heads (x : FVec Ideal S65536x512 .bf16) : FVec Ideal S32x8x2048x64 .f32 :=
  transpose S32x8x2048x64 [0, 2, 1, 3] (shapeCast _ (extf .f32 x bitsLt_bf16_f32) shapeCasts_S65536x512_S32x2048x8x64)
    transposes_S32x2048x8x64_S32x8x2048x64_0_2_1_3

/-- the keys by head pair with their gate lanes, -/
def pairs (x : FVec Ideal S65536x1024 .bf16) : FVec Ideal S32x2048x4x256 .f32 :=
  shapeCast _ (extf .f32 x bitsLt_bf16_f32) shapeCasts_S65536x1024_S32x2048x4x256

/-- and the keys without them. -/
def keys (x : FVec Ideal S65536x1024 .bf16) : FVec Ideal S32x8x2048x64 .f32 :=
  transpose S32x8x2048x64 [0, 2, 1, 3] (shapeCast _ (extractStridedSlice S32x2048x4x128 ![0, 0, 0, 0] (pairs x)
    slices_S32x2048x4x256_S32x2048x4x128_0_0_0_0) shapeCasts_S32x2048x4x128_S32x2048x8x64) transposes_S32x2048x8x64_S32x8x2048x64_0_2_1_3

/-- The three gate lanes of one head, added up. -/
def gate1 (x : FVec Ideal S65536x1024 .bf16) (o : Fin 4 → ℕ) (h : S32x2048x4x256.Slices o S32x2048x1x3) : FVec Ideal S32x1x2048 .f32 :=
  broadcastInDim S32x1x2048 ![0, 2] bcast_S32x2048_S32x1x2048_0_2 (Host.reduceAdd (shapeCast _ (extractStridedSlice S32x2048x1x3 o (pairs x) h)
    shapeCasts_S32x2048x1x3_S32x2048x3) (constant S_ .f32 0x00000000#32) reducesTo_S32x2048x3_S32x2048_d2 h_S_)

/-- The gates of the eight heads. -/
def gates (x : FVec Ideal S65536x1024 .bf16) : FVec Ideal S32x8x2048 .f32 :=
  concatenate S32x8x2048 1
    [⟨S32x1x2048, gate1 x ![0, 0, 0, 128] slices_S32x2048x4x256_S32x2048x1x3_0_0_0_128⟩, ⟨S32x1x2048, gate1 x ![0, 0, 0, 131] slices_S32x2048x4x256_S32x2048x1x3_0_0_0_131⟩,
      ⟨S32x1x2048, gate1 x ![0, 0, 1, 134] slices_S32x2048x4x256_S32x2048x1x3_0_0_1_134⟩, ⟨S32x1x2048, gate1 x ![0, 0, 1, 137] slices_S32x2048x4x256_S32x2048x1x3_0_0_1_137⟩,
      ⟨S32x1x2048, gate1 x ![0, 0, 2, 140] slices_S32x2048x4x256_S32x2048x1x3_0_0_2_140⟩, ⟨S32x1x2048, gate1 x ![0, 0, 2, 143] slices_S32x2048x4x256_S32x2048x1x3_0_0_2_143⟩,
      ⟨S32x1x2048, gate1 x ![0, 0, 3, 146] slices_S32x2048x4x256_S32x2048x1x3_0_0_3_146⟩, ⟨S32x1x2048, gate1 x ![0, 0, 3, 149] slices_S32x2048x4x256_S32x2048x1x3_0_0_3_149⟩]
    concatenates_S32x1x2048_S32x1x2048_S32x1x2048_S32x1x2048_S32x1x2048_S32x1x2048_S32x1x2048_S32x1x2048_S32x8x2048_d1

/-- The scores in natural units, minus infinity where the key comes after the query. -/
def scores (q k : FVec Ideal S32x8x2048x64 .f32) (d : FVec Ideal S32x8x2048 .f32) : FVec Ideal S32x8x2048x2048 .f32 :=
  select (broadcastInDim S32x8x2048x2048 ![2, 3] bcast_S2048x2048_S32x8x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (mulf (broadcastInDim S32x8x2048x2048 ![] bcast_S_S32x8x2048x2048 (Host.log (constant S_ .f32 0x40000000#32)))
      (addf (Host.dotGeneral dot_S32x8x2048x64_S32x8x2048x64_S32x8x2048x2048_3_3_2_2_01_01 none q k)
        (broadcastInDim S32x8x2048x2048 ![0, 1, 2, 3] bcast_S32x8x1x2048_S32x8x2048x2048_0_1_2_3
          (broadcastInDim S32x8x1x2048 ![0, 1, 3] bcast_S32x8x2048_S32x8x1x2048_0_1_3 d))))
    (broadcastInDim S32x8x2048x2048 ![] bcast_S_S32x8x2048x2048 (id (constant S_ .f32 0xFF800000#32)))

/-- The largest score of each query. -/
def tops (s : FVec Ideal S32x8x2048x2048 .f32) : FVec Ideal S32x8x2048 .f32 :=
  maximumf (broadcastInDim S32x8x2048 ![] bcast_S_S32x8x2048 (constant S_ .f32 0xFF800000#32))
    (Host.reduce FloatOps.maximumf s (constant S_ .f32 0xFF800000#32) reducesTo_S32x8x2048x2048_S32x8x2048_d3 h_S_)

/-- The exponentials of the scores, the largest score of the query taken away, -/
def weights (s : FVec Ideal S32x8x2048x2048 .f32) (t : FVec Ideal S32x8x2048 .f32) : FVec Ideal S32x8x2048x2048 .f32 :=
  Host.exp (subf s (broadcastInDim S32x8x2048x2048 ![0, 1, 2, 3] bcast_S32x8x2048x1_S32x8x2048x2048_0_1_2_3
    (broadcastInDim S32x8x2048x1 ![0, 1, 2] bcast_S32x8x2048_S32x8x2048x1_0_1_2 t)))

/-- and the values they weigh, each exponential divided by the query's sum. -/
def mix (e : FVec Ideal S32x8x2048x2048 .f32) (v : FVec Ideal S32x8x2048x64 .f32) : FVec Ideal S32x8x2048x64 .f32 :=
  Host.dotGeneral dot_S32x8x2048x2048_S32x8x2048x64_S32x8x2048x64_3_2_2_3_01_01 none
    (Host.divf e (broadcastInDim S32x8x2048x2048 ![0, 1, 2, 3] bcast_S32x8x2048x1_S32x8x2048x2048_0_1_2_3
      (broadcastInDim S32x8x2048x1 ![0, 1, 2] bcast_S32x8x2048_S32x8x2048x1_0_1_2
        (Host.reduceAdd e (constant S_ .f32 0x00000000#32) reducesTo_S32x8x2048x2048_S32x8x2048_d3 h_S_)))) v

/-- The attention by batch row, head, query and lane. -/
def attention (s : FVec Ideal S32x8x2048x2048 .f32) (v : FVec Ideal S32x8x2048x64 .f32) : FVec Ideal S32x8x2048x64 .f32 :=
  mix (weights s (tops s)) v

/-- The reference's result over its three arguments. -/
def REF (q : FVec Ideal S65536x512 .bf16) (k : FVec Ideal S65536x1024 .bf16) (v : FVec Ideal S65536x512 .bf16) : FVec Ideal S65536x512 .bf16 :=
  truncf .bf16 (shapeCast _ (transpose S32x2048x8x64 [0, 2, 1, 3] (attention (scores (heads q) (keys k) (gates k)) (heads v))
    transposes_S32x8x2048x64_S32x2048x8x64_0_2_1_3) shapeCasts_S32x2048x8x64_S65536x512) bitsLt_bf16_f32

/-- It is the term the reference's run leaves. -/
theorem res_eq (m : (ℓ : Loc nD τ sig) → Buf (Elt Ideal) ℓ) (c : Dev nD) : Cert.ReferenceIdeal.Value.res_main_v73 (F := Ideal) m c
    = REF (m ((c.tc : Thread nD τ).loc main_arg0)) (m ((c.tc : Thread nD τ).loc main_arg1)) (m ((c.tc : Thread nD τ).loc main_arg2)) := rfl

/-- Where the heads' arrays hold a lane of a row, -/
theorem heads_at (x : FVec Ideal S65536x512 .bf16) (b : Fin 32) (h : Fin 8) (s : Fin 2048) (i : Fin 64) :
    heads x (ix4 b h s i) = x (ix2 ⟨b * 2048 + s, by omega⟩ ⟨h * 64 + i, by omega⟩) := by
  pointwise [heads]

/-- where the keys' array does, -/
theorem keys_at (x : FVec Ideal S65536x1024 .bf16) (b : Fin 32) (h : Fin 8) (s : Fin 2048) (i : Fin 64) :
    keys x (ix4 b h s i) = x (ix2 ⟨b * 2048 + s, by omega⟩ ⟨h / 2 * 256 + (h % 2 * 64 + i), by omega⟩) := by
  pointwise [keys, pairs]

/-- and what a head's gate adds up. -/
theorem gates_at (x : FVec Ideal S65536x1024 .bf16) (b : Fin 32) (h : Fin 8) (s : Fin 2048) :
    gates x (ix3 b h s) = ∑ i : Fin 3, x (ix2 ⟨b * 2048 + s, by omega⟩ ⟨h / 2 * 256 + (128 + 3 * h + i), by omega⟩) := by
  pointwise [gates, gate1, pairs]
  fin_cases h <;> simp only [] <;> rfl

/-- The largest of minus infinity and an element. -/
theorem max_at (r : FVec Ideal S32x8x2048 .f32) (b : Fin 32) (h : Fin 8) (t : Fin 2048) :
    maximumf (broadcastInDim S32x8x2048 ![] bcast_S_S32x8x2048 (constant S_ .f32 0xFF800000#32)) r (ix3 b h t)
    = max (Ideal.ofBits FTy.f32 4286578688#32) (r (ix3 b h t)) := by
  pointwise

/-- The largest element along the keys. -/
theorem reduce_at (s : FVec Ideal S32x8x2048x2048 .f32) (b : Fin 32) (h : Fin 8) (t : Fin 2048) :
    Host.reduce FloatOps.maximumf s (constant S_ .f32 0xFF800000#32) reducesTo_S32x8x2048x2048_S32x8x2048_d3 h_S_ (ix3 b h t)
    = Finset.fold max (Ideal.ofBits FTy.f32 4286578688#32) (fun k => s (ix4 b h t k)) Finset.univ := by
  have hr : S32x8x2048x2048.Reduces [3] S32x8x2048 := by decide
  refine (Host.reduce_eq_fold_single (FloatOps.maximumf (F := Ideal) (φ := .f32)) s _ _ hr h_S_ _).trans ?_
  refine congrArg (fun f => Finset.fold max (Ideal.ofBits FTy.f32 4286578688#32) f Finset.univ) (funext fun k => congrArg s ?_)
  funext a
  fin_cases a <;> rfl

/-- The largest score of a query. -/
theorem tops_at (s : FVec Ideal S32x8x2048x2048 .f32) (b : Fin 32) (h : Fin 8) (t : Fin 2048) :
    tops s (ix3 b h t) = max (Ideal.ofBits FTy.f32 4286578688#32)
      (Finset.fold max (Ideal.ofBits FTy.f32 4286578688#32) (fun k => s (ix4 b h t k)) Finset.univ) := by
  rw [tops, max_at, reduce_at]

/-- A score of real arrays: `log 2` times key times query plus gate, minus infinity where the key comes after the query. -/
theorem scores_at (q k : FVec Ideal S32x8x2048x64 .f32) (d : FVec Ideal S32x8x2048 .f32) (b : Fin 32) (h : Fin 8) (s t : Fin 2048)
    (qf : Fin 64 → ℝ) (kf : Fin 64 → ℝ) (g : ℝ) (hq : ∀ i, q (ix4 b h s i) = qf i) (hk : ∀ i, k (ix4 b h t i) = kf i)
    (hd : d (ix3 b h t) = g) :
    scores q k d (ix4 b h s t) = if t ≤ s then ((Real.log 2 * ((∑ i, kf i * qf i) + g) : ℝ) : EReal) else ⊥ := by
  have e2 : Ideal.log (Ideal.ofBits FTy.f32 1073741824#32) = (Real.log 2 : ℝ) := by
    rw [show Ideal.ofBits FTy.f32 1073741824#32 = ((2 : ℝ) : EReal) by
      simp [Ideal.ofBits, Ideal.ieee]
      rw [← EReal.coe_mul]
      norm_num, Ideal.log_coe]
    norm_num
  pointwise [scores]
  simp only [hq, hk, hd, e2, ← EReal.coe_mul, Cert.KernelIdeal.Value.coe_sum, ← EReal.coe_add]
  rw [show IntOp.cmpi CmpIPredicate.sle (BitVec.ofNat 32 t) (BitVec.ofNat 32 s) = BitVec.ofBool (decide (t ≤ s)) from
    WordCmp.cmpi_sle_ofNat (by omega) (by omega)]
  by_cases h' : t ≤ s
  · simp [h', Scalar.select, mul_comm]
  · rw [if_neg h', decide_eq_false h']
    exact Cert.KernelIdeal.Value.minus_inf

/-- An exponential. -/
theorem weights_at (x : FVec Ideal S32x8x2048x2048 .f32) (m : FVec Ideal S32x8x2048 .f32) (b : Fin 32) (h : Fin 8) (s t : Fin 2048) :
    weights x m (ix4 b h s t) = Ideal.exp (x (ix4 b h s t) - m (ix3 b h s)) := by
  pointwise [weights]

/-- A weighted sum. -/
theorem mix_at (x : FVec Ideal S32x8x2048x2048 .f32) (v : FVec Ideal S32x8x2048x64 .f32) (b : Fin 32) (h : Fin 8) (s : Fin 2048) (i : Fin 64) :
    mix x v (ix4 b h s i) = ∑ t, Ideal.div (x (ix4 b h s t)) (∑ t, x (ix4 b h s t)) * v (ix4 b h t i) := by
  pointwise [mix]

/-- Where the result holds a lane of a head. -/
theorem REF_at (q : FVec Ideal S65536x512 .bf16) (k : FVec Ideal S65536x1024 .bf16) (v : FVec Ideal S65536x512 .bf16)
    (b : Fin 32) (h : Fin 8) (s : Fin 2048) (i : Fin 64) : REF q k v (ix2 ⟨b * 2048 + s, by omega⟩ ⟨h * 64 + i, by omega⟩) =
     attention (scores (heads q) (keys k) (gates k)) (heads v) (ix4 b h s i) := by
  unfold REF
  generalize attention (scores (heads q) (keys k) (gates k)) (heads v) = A
  pointwise

open Cert.KernelIdeal.Value (att pairAtt sc0 sc1 rowOf laneOf laneOf2 qRow kRow vHead0 vHead1 pairOut OUT)

/-- One head's attention of real arrays. -/
theorem head_at (q k v : FVec Ideal S32x8x2048x64 .f32) (d : FVec Ideal S32x8x2048 .f32) (b : Fin 32) (h : Fin 8) (s : Fin 2048) (i : Fin 64)
    (qf : Fin 64 → ℝ) (kf : Fin 2048 → Fin 64 → ℝ) (g vf : Fin 2048 → ℝ) (hq : ∀ i, q (ix4 b h s i) = qf i)
    (hk : ∀ t i, k (ix4 b h t i) = kf t i) (hd : ∀ t, d (ix3 b h t) = g t) (hv : ∀ t, v (ix4 b h t i) = vf t) :
    attention (scores q k d) v (ix4 b h s i) = (att (fun t => (∑ i, kf t i * qf i) + g t) vf s : EReal) := by
  rw [attention, mix_at]
  simp only [weights_at, tops_at]
  exact Cert.KernelIdeal.Value.softmax_sum _ vf s (fun t => scores q k d (ix4 b h s t)) (fun t => v (ix4 b h t i)) _
    Cert.KernelIdeal.Value.minus_inf (fun t => scores_at q k d b h s t qf (kf t) (g t) hq (hk t) (hd t)) hv

variable (xq : S65536x512.Idx → ℝ) (xk : S65536x1024.Idx → ℝ) (xv : S65536x512.Idx → ℝ)
variable (q : FVec Ideal S65536x512 .bf16) (k : FVec Ideal S65536x1024 .bf16) (v : FVec Ideal S65536x512 .bf16)

/-- The reference at a lane of a pair's first head, -/
theorem first (hq : ∀ i, q i = (xq i : EReal)) (hk : ∀ i, k i = (xk i : EReal)) (hv : ∀ i, v i = (xv i : EReal))
    (b : Fin 32) (p : Fin 4) (s : Fin 2048) (i : Fin 64) :
    REF q k v (ix2 (rowOf b s) (laneOf p ⟨i, by omega⟩))
    = (att (fun t => sc0 p (qRow xq b p s) (kRow xk b p t)) (vHead0 xv b p i) s : EReal) := by
  have e := REF_at q k v b ⟨2 * (p : ℕ), by omega⟩ s i
  have e' : (⟨2 * (p : ℕ) * 64 + i, by omega⟩ : Fin 512) = laneOf p ⟨i, by omega⟩ := Fin.ext (by simp [laneOf]; omega)
  rw [e'] at e
  refine e.trans (head_at _ _ _ _ _ _ _ _ (fun i => qRow xq b p s ⟨i, by omega⟩) (fun t i => kRow xk b p t ⟨i, by omega⟩)
    (fun t => ∑ i : Fin 3, kRow xk b p t ⟨128 + (3 * (2 * (p : ℕ)) + i), by omega⟩) (vHead0 xv b p i) (fun i => ?_) (fun t i => ?_) (fun t => ?_) fun t => ?_)
  · rw [heads_at, hq]
    exact congrArg (fun l => (xq (ix2 _ l) : EReal)) (Fin.ext (by simp [laneOf]; omega))
  · rw [keys_at, hk]
    exact congrArg (fun l => (xk (ix2 _ l) : EReal)) (Fin.ext (by simp [laneOf2]))
  · rw [gates_at]
    simp only [hk]
    rw [Cert.KernelIdeal.Value.coe_sum]
    refine congrArg Real.toEReal (Finset.sum_congr rfl fun i _ => congrArg (fun l => xk (ix2 _ l)) (Fin.ext ?_))
    simp [laneOf2]; omega
  · rw [heads_at, hv]
    exact congrArg (fun l => (xv (ix2 _ l) : EReal)) (Fin.ext (by simp [laneOf]; omega))

/-- and of its second. -/
theorem second (hq : ∀ i, q i = (xq i : EReal)) (hk : ∀ i, k i = (xk i : EReal)) (hv : ∀ i, v i = (xv i : EReal))
    (b : Fin 32) (p : Fin 4) (s : Fin 2048) (i : Fin 64) :
    REF q k v (ix2 (rowOf b s) (laneOf p ⟨64 + i, by omega⟩))
    = (att (fun t => sc1 p (qRow xq b p s) (kRow xk b p t)) (vHead1 xv b p i) s : EReal) := by
  have e := REF_at q k v b ⟨2 * (p : ℕ) + 1, by omega⟩ s i
  have e' : (⟨(2 * (p : ℕ) + 1) * 64 + i, by omega⟩ : Fin 512) = laneOf p ⟨64 + i, by omega⟩ := Fin.ext (by simp [laneOf]; omega)
  rw [e'] at e
  refine e.trans (head_at _ _ _ _ _ _ _ _ (fun i => qRow xq b p s ⟨64 + i, by omega⟩) (fun t i => kRow xk b p t ⟨64 + i, by omega⟩)
    (fun t => ∑ i : Fin 3, kRow xk b p t ⟨128 + (3 * (2 * (p : ℕ) + 1) + i), by omega⟩) (vHead1 xv b p i) (fun i => ?_) (fun t i => ?_) (fun t => ?_) fun t => ?_)
  · rw [heads_at, hq]
    exact congrArg (fun l => (xq (ix2 _ l) : EReal)) (Fin.ext (by simp [laneOf]; omega))
  · rw [keys_at, hk]
    exact congrArg (fun l => (xk (ix2 _ l) : EReal)) (Fin.ext (by simp [laneOf2]; omega))
  · rw [gates_at]
    simp only [hk]
    rw [Cert.KernelIdeal.Value.coe_sum]
    refine congrArg Real.toEReal (Finset.sum_congr rfl fun i _ => congrArg (fun l => xk (ix2 _ l)) (Fin.ext ?_))
    simp [laneOf2]; omega
  · rw [heads_at, hv]
    exact congrArg (fun l => (xv (ix2 _ l) : EReal)) (Fin.ext (by simp [laneOf]; omega))

/-- Of arrays of real numbers the reference is the attention that the kernel leaves. -/
theorem ref_eq (hq : ∀ i, q i = (xq i : EReal)) (hk : ∀ i, k i = (xk i : EReal)) (hv : ∀ i, v i = (xv i : EReal)) :
    REF q k v = OUT xq xk xv := by
  funext y
  have h0 : (y 0 : ℕ) < 65536 := (y 0).isLt
  have h1 : (y 1 : ℕ) < 512 := (y 1).isLt
  have hy : y = ix2 (rowOf ⟨(y 0 : ℕ) / 2048, by omega⟩ ⟨(y 0 : ℕ) % 2048, by omega⟩) (laneOf ⟨(y 1 : ℕ) / 128, by omega⟩ ⟨(y 1 : ℕ) % 128, by omega⟩) := by
    refine (eq_ix2 y).trans (congrArg₂ ix2 (Fin.ext ?_) (Fin.ext ?_)) <;> simp [rowOf, laneOf] <;> omega
  rw [hy, rowOf, laneOf, Cert.KernelIdeal.Value.out_block xq xk xv _ _ _ _ _ _ rfl rfl]
  by_cases h : (y 1 : ℕ) % 128 < 64
  · refine (first xq xk xv q k v hq hk hv ⟨(y 0 : ℕ) / 2048, by omega⟩ ⟨(y 1 : ℕ) / 128, by omega⟩ ⟨(y 0 : ℕ) % 2048, by omega⟩ ⟨(y 1 : ℕ) % 128, h⟩).trans ?_
    rw [pairOut, pairAtt, dif_pos h]
  · have e : (⟨64 + ((y 1 : ℕ) % 128 - 64), by omega⟩ : Fin 128) = ⟨(y 1 : ℕ) % 128, by omega⟩ := Fin.ext (by simp; omega)
    have := second xq xk xv q k v hq hk hv ⟨(y 0 : ℕ) / 2048, by omega⟩ ⟨(y 1 : ℕ) / 128, by omega⟩ ⟨(y 0 : ℕ) % 2048, by omega⟩ ⟨(y 1 : ℕ) % 128 - 64, by omega⟩
    rw [show (⟨64 + ((⟨(y 1 : ℕ) % 128 - 64, by omega⟩ : Fin 64) : ℕ), by omega⟩ : Fin 128) = ⟨(y 1 : ℕ) % 128, by omega⟩ from e] at this
    refine this.trans ?_
    rw [pairOut, pairAtt, dif_neg h]

end Cert.ReferenceIdeal.Attn

end
-- ==== Proof.AttnClaims.lean ====
/-
  The claims about the forgetting attention: the programs run and leave their arguments as they were, with every counter
  back at zero; the idealized kernel differs from the printed one in the mask constant only; and from real arguments
  kernel and reference end, as extended reals, with one array.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.AttnFinite
public import proofs.«01_k».proof.Proof.AttnValue
public import proofs.«01_k».proof.Proof.AttnRef
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.AttnClaims

/-- The printed attention runs and leaves its arguments unchanged. -/
theorem frame_p : Cert.quiescent_Kernel := fun m ρ _ => Cert.Kernel.Gen.frame m ρ
/-- So does its idealization, -/
theorem frame_pi : Cert.quiescent_KernelIdeal := fun m ρ _ => Cert.KernelIdeal.Gen.frame m ρ
/-- and so does the reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- From real arguments in particular the idealization runs, -/
theorem frame_pi_pre : Cert.quiescent_KernelIdeal_pre_finite := fun m ρ _ => Cert.KernelIdeal.Gen.frame m ρ
/-- and the reference. -/
theorem frame_ri_pre : Cert.quiescent_ReferenceIdeal_pre_finite := fun m ρ _ => frame_ri m ρ trivial
/-- The idealization reads the mask `-1e30` as minus infinity and replaces nothing else. -/
theorem preserves : Cert.preserves_Kernel_KernelIdeal :=
  IdealRules.named_const.statement Cert.KernelIdeal.κ "mask" .f32 0xF149F2CA#32 ⊥ rfl
/-- From real arguments kernel and reference end with one array. -/
theorem algebraic : Cert.algebraic_KernelIdeal_ReferenceIdeal_pre_finite := by
  pair_intro
  · run_from Cert.KernelIdeal.Gen.run_main m g
  · run_from Cert.ReferenceIdeal.Value.run (F := Ideal) m' g'
    rw [Cert.ReferenceIdeal.Attn.res_eq, (hagree c).1, (hagree c).2.1, (hagree c).2.2]
    obtain ⟨hq, hk, hv⟩ := AttnFinite.real_args _ _ _ (hpre c)
    exact (Cert.ReferenceIdeal.Attn.ref_eq _ _ _ _ _ _ hq hk hv).trans
      (Cert.KernelIdeal.Value.final m _ _ _ c hq hk hv).symm

end Cert.Proof.AttnClaims

end
-- ==== Proof.MixInFinite.lean ====
/-
  What the precondition of the value claim about the sub-layer's inputs says: every element of the rows, the scales, the
  weights of the projection and the gates' biases is a real number.
-/
module

public import proofs.«01_k».proof.Defs
public import proofs.«01_k».proof.Proof.Gen.Pre_real
public import Idealize.ShloMosaic.Lib.ReduceAll
public import Idealize.ShloMosaic.PureOps.Ideal

@[expose] public section

set_option maxRecDepth 16384

noncomputable section

open Idealize.ShloMosaic Idealize.ShloMosaic.TcCoe

namespace Cert.Proof.MixInFinite

/-- The single-precision infinity is read as infinity. -/
theorem inf_word : (Ideal.ofBits .f32 0x7F800000#32 : EReal) = ⊤ := by
  simp [Ideal.ofBits, Ideal.ieee]

/-- What is below infinity in absolute value is a real number. -/
theorem real_of_abs (x : EReal) (h : max x (-x) < ⊤) : ∃ y : ℝ, x = y := by
  rw [max_lt_iff] at h
  refine ⟨x.toReal, (EReal.coe_toReal h.1.ne fun hx => ?_).symm⟩
  rw [hx] at h
  exact absurd h.2 (by simp)

instance : Subsingleton Cert.Pre_real.S_.Idx := ⟨fun a b => funext fun k => k.elim0⟩

/-- An array each of whose elements tests as below infinity in absolute value is an array of real numbers. -/
theorem real_of_all {s : Shape} {axes : List (Fin s.rank)} (x : FVec Ideal s .f32)
    (b : Cert.Pre_real.S_.BroadcastsInDim s (![] : Fin 0 → Fin s.rank)) (h : s.ReducesTo axes Cert.Pre_real.S_)
    (hu : 0 < Cert.Pre_real.S_.numel) (j : Cert.Pre_real.S_.Idx)
    (e : Host.reduce IntOp.andi
      (cmpf .olt (Host.absf x) (broadcastInDim s ![] b (constant (F := Ideal) Cert.Pre_real.S_ .f32 0x7F800000#32)))
      (constantI Cert.Pre_real.S_ 1 1#1) h hu j = 1#1) (i : s.Idx) : ∃ y : ℝ, x i = y := by
  have h1 := Host.reduce_andi_all _ _ h hu j e i
  refine real_of_abs _ ?_
  have h2 : BitVec.ofBool (decide (max (x i : EReal) (-(x i : EReal)) < Ideal.ofBits .f32 0x7F800000#32)) = 1#1 := h1
  rw [inf_word] at h2
  by_contra hn
  rw [decide_eq_false hn] at h2
  exact absurd h2 (by decide)

/-- Under the precondition the rows, the scales, the weights and the biases are arrays of real numbers. -/
theorem real_args (x : FVec Ideal Cert.Pre_real.S32x2048x1024 .f32) (g : FVec Ideal Cert.Pre_real.S4x1024 .f32)
    (w : FVec Ideal Cert.Pre_real.S4x1024x2568 .f32) (f : FVec Ideal Cert.Pre_real.S4x8 .f32) (p : FVec Ideal Cert.Pre_real.S4x4x64x64 .f32)
    (q : FVec Ideal Cert.Pre_real.S4x256 .f32) (v : FVec Ideal Cert.Pre_real.S4x3x256 .f32)
    (h : Cert.Pre_real.fn (F := Ideal) x g w f p q v = fun _ => 1#1) :
    (∀ i, ∃ y : ℝ, x i = y) ∧ (∀ i, ∃ y : ℝ, g i = y) ∧ (∀ i, ∃ y : ℝ, w i = y) ∧ ∀ i, ∃ y : ℝ, f i = y := by
  have h0 := congrFun h (fun a => a.elim0)
  have h1 := IntOp.andi_eq_one.1 h0
  have h2 := IntOp.andi_eq_one.1 h1.1
  have h3 := IntOp.andi_eq_one.1 h2.1
  exact ⟨real_of_all x _ _ _ _ h3.1, real_of_all g _ _ _ _ h3.2, real_of_all w _ _ _ _ h2.2, real_of_all f _ _ _ _ h1.2⟩

end Cert.Proof.MixInFinite

end
-- ==== Proof.MixInRef.lean ====
/-
  The reference of the sub-layer's inputs, as its operations compose: the projection of the normalized rows, and from it
  the queries, the values, the keys with their gates, the pooled averages and the short convolution.
-/
module

public import proofs.«01_k».proof.Proof.Gen.MixInRefIdeal.Run
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.MixInRefIdeal.Mix

open Cert.MixInRefIdeal Cert.MixInRefIdeal.Gen

/-- The projection of the normalized rows, -/
def PROJ (X : FVec Ideal S32x2048x1024 .f32) (G : FVec Ideal S4x1024 .f32) (W : FVec Ideal S4x1024x2568 .f32) : FVec Ideal S32x2048x2568 .f32 :=
  Host.dotGeneral dot_S32x2048x1024_S1024x2568_S32x2048x2568_2_0_01_1_n_n none (mulf (mulf X (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf X X) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ (extractStridedSlice S1x1024 ![0, 0] G slices_S4x1024_S1x1024_0_0) shapeCasts_S1x1024_S1024)))) (shapeCast _ (extractStridedSlice S1x1024x2568 ![0, 0, 0] W slices_S4x1024x2568_S1x1024x2568_0_0_0) shapeCasts_S1x1024x2568_S1024x2568)

/-- element by element. -/
theorem proj_at (X : FVec Ideal S32x2048x1024 .f32) (G : FVec Ideal S4x1024 .f32) (W : FVec Ideal S4x1024x2568 .f32)
    (b : Fin 32) (s : Fin 2048) (l : Fin 2568) : PROJ X G W (ix3 b s l)
    = ∑ k : Fin 1024, X (ix3 b s k) * Ideal.rsqrt (Ideal.div (∑ k : Fin 1024, X (ix3 b s k) * X (ix3 b s k)) (Ideal.ofBits .f32 0x44800000#32)
        + Ideal.ofBits .f32 0x358637BD#32) * G (ix2 0 k) * W (ix3 0 k l) := by
  pointwise [PROJ]

/-- The queries, scaled, -/
def RQ (P : FVec Ideal S32x2048x2568 .f32) : FVec Ideal S65536x512 .bf16 :=
  truncf .bf16 (shapeCast _ (mulf (extractStridedSlice S32x2048x512 ![0, 0, 0] P slices_S32x2048x2568_S32x2048x512_0_0_0) (broadcastInDim S32x2048x512 ![] bcast_S_S32x2048x512 (constant S_ .f32 0x3E38AA3B#32))) shapeCasts_S32x2048x512_S65536x512) bitsLt_bf16_f32

/-- element by element, -/
theorem rq_at (P : FVec Ideal S32x2048x2568 .f32) (n : Fin 65536) (l : Fin 512) :
    RQ P (ix2 n l) = P (ix3 ⟨n / 2048, by omega⟩ ⟨n % 2048, by omega⟩ ⟨l, by omega⟩) * Ideal.ofBits .f32 0x3E38AA3B#32 := by
  pointwise [RQ]

/-- and the values, -/
def RV (P : FVec Ideal S32x2048x2568 .f32) : FVec Ideal S65536x512 .bf16 :=
  truncf .bf16 (shapeCast _ (extractStridedSlice S32x2048x512 ![0, 0, 1024] P slices_S32x2048x2568_S32x2048x512_0_0_1024) shapeCasts_S32x2048x512_S65536x512) bitsLt_bf16_f32

/-- element by element. -/
theorem rv_at (P : FVec Ideal S32x2048x2568 .f32) (n : Fin 65536) (l : Fin 512) :
    RV P (ix2 n l) = P (ix3 ⟨n / 2048, by omega⟩ ⟨n % 2048, by omega⟩ ⟨1024 + l, by omega⟩) := by
  pointwise [RV]

/-- The input of the convolution, two rows of zeros before it, -/
def PAD (P : FVec Ideal S32x2048x2568 .f32) : FVec Ideal S32x2050x256 .f32 :=
  concatenate S32x2050x256 1 [⟨S32x2x256, (broadcastInDim S32x2x256 ![] bcast_S_S32x2x256 (constant S_ .f32 0x00000000#32))⟩, ⟨S32x2048x256, (mulf (extractStridedSlice S32x2048x256 ![0, 0, 2056] P slices_S32x2048x2568_S32x2048x256_0_0_2056) (extractStridedSlice S32x2048x256 ![0, 0, 2312] P slices_S32x2048x2568_S32x2048x256_0_0_2312))⟩] concatenates_S32x2x256_S32x2048x256_S32x2050x256_d1

/-- element by element. -/
theorem pad_at (P : FVec Ideal S32x2048x2568 .f32) (b : Fin 32) (s : Fin 2050) (l : Fin 256) :
    PAD P (ix3 b s l) = if h : (s : ℕ) < 2 then Ideal.ofBits .f32 0x00000000#32
      else P (ix3 b ⟨s - 2, by omega⟩ ⟨2056 + l, by omega⟩) * P (ix3 b ⟨s - 2, by omega⟩ ⟨2312 + l, by omega⟩) := by
  pointwise [PAD]

/-- The gated convolution, -/
def CONV (P : FVec Ideal S32x2048x2568 .f32) (Z : FVec Ideal S32x2050x256 .f32) (V : FVec Ideal S4x3x256 .f32) : FVec Ideal S32x2048x256 .f32 :=
  mulf (extractStridedSlice S32x2048x256 ![0, 0, 1800] P slices_S32x2048x2568_S32x2048x256_0_0_1800) (addf (addf (mulf (broadcastInDim S32x2048x256 ![0, 1, 2] bcast_S1x1x256_S32x2048x256_0_1_2 (broadcastInDim S1x1x256 ![2] bcast_S256_S1x1x256_2 (shapeCast _ (extractStridedSlice S1x1x256 ![0, 0, 0] V slices_S4x3x256_S1x1x256_0_0_0) shapeCasts_S1x1x256_S256))) (extractStridedSlice S32x2048x256 ![0, 0, 0] Z slices_S32x2050x256_S32x2048x256_0_0_0)) (mulf (broadcastInDim S32x2048x256 ![0, 1, 2] bcast_S1x1x256_S32x2048x256_0_1_2 (broadcastInDim S1x1x256 ![2] bcast_S256_S1x1x256_2 (shapeCast _ (extractStridedSlice S1x1x256 ![0, 1, 0] V slices_S4x3x256_S1x1x256_0_1_0) shapeCasts_S1x1x256_S256))) (extractStridedSlice S32x2048x256 ![0, 1, 0] Z slices_S32x2050x256_S32x2048x256_0_1_0))) (mulf (broadcastInDim S32x2048x256 ![0, 1, 2] bcast_S1x1x256_S32x2048x256_0_1_2 (broadcastInDim S1x1x256 ![2] bcast_S256_S1x1x256_2 (shapeCast _ (extractStridedSlice S1x1x256 ![0, 2, 0] V slices_S4x3x256_S1x1x256_0_2_0) shapeCasts_S1x1x256_S256))) (extractStridedSlice S32x2048x256 ![0, 2, 0] Z slices_S32x2050x256_S32x2048x256_0_2_0)))

/-- element by element. -/
theorem conv_at (P : FVec Ideal S32x2048x2568 .f32) (Z : FVec Ideal S32x2050x256 .f32) (V : FVec Ideal S4x3x256 .f32) (b : Fin 32) (s : Fin 2048) (l : Fin 256) :
    CONV P Z V (ix3 b s l) = P (ix3 b s ⟨1800 + l, by omega⟩)
      * (V (ix3 0 0 l) * Z (ix3 b ⟨s, by omega⟩ l) + V (ix3 0 1 l) * Z (ix3 b ⟨1 + s, by omega⟩ l) + V (ix3 0 2 l) * Z (ix3 b ⟨2 + s, by omega⟩ l)) := by
  pointwise [CONV]

/-- The band of the last `w` rows, -/
def BAND (w : BitVec 32) : FVec Ideal S2048x2048 .f32 :=
  uitofp .f32 (andi (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))) (cmpi .slt (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (addi (broadcastInDim S1x2048 ![1] bcast_S2048_S1x2048_1 (iotaInDim S2048 32 0)) (broadcastInDim S1x2048 ![] bcast_S_S1x2048 (constantI S_ 32 w))))))

/-- and all rows so far. -/
def UNTIL : FVec Ideal S2048x2048 .f32 :=
  uitofp .f32 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- A truth value is read as one or zero. -/
theorem uitofp_bool (p : Prop) [Decidable p] : FloatOps.uitofp (F := Ideal) FTy.f32 (BitVec.ofBool (decide p)) = if p then (1 : EReal) else 0 := by
  show (((BitVec.ofBool (decide p)).toNat : ℝ) : EReal) = _
  by_cases h : p <;> simp [h]

/-- Row `t` of the triangle has ones up to column `t`, -/
theorem until_at (t s : Fin 2048) : UNTIL (ix2 t s) = if (s : ℕ) ≤ t then (1 : EReal) else 0 := by
  pointwise [UNTIL]
  rw [WordCmp.cmpi_sle_ofNat (by omega) (by omega)]
  exact uitofp_bool _

/-- and the band has them in the last `w` of those columns. -/
theorem band_at (w : ℕ) (hw : w ≤ 16) (t s : Fin 2048) : BAND (BitVec.ofNat 32 w) (ix2 t s) = if (s : ℕ) ≤ t ∧ (t : ℕ) < s + w then (1 : EReal) else 0 := by
  pointwise [BAND]
  rw [WordCmp.cmpi_sle_ofNat (by omega) (by omega)]
  have e : IntOp.addi (BitVec.ofNat 32 (s : ℕ)) (BitVec.ofNat 32 w) = BitVec.ofNat 32 (s + w) := (BitVec.ofNat_add _ _).symm
  rw [e, WordCmp.cmpi_slt_ofNat (by omega) (by omega)]
  rw [show ∀ p q : Bool, IntOp.andi (BitVec.ofBool p) (BitVec.ofBool q) = BitVec.ofBool (p && q) by decide]
  rw [← Bool.decide_and]
  exact uitofp_bool _

/-- The averages of 64 lanes over the last `w` rows less the lanes themselves, through their weight, -/
def POOL (U : FVec Ideal S32x2048x64 .f32) (w : BitVec 32) (M : FVec Ideal S64x64 .f32) : FVec Ideal S32x2048x64 .f32 :=
  Host.dotGeneral dot_S32x2048x64_S64x64_S32x2048x64_2_0_01_1_n_n none (subf (Host.divf (transpose S32x2048x64 [0, 2, 1] (Host.dotGeneral dot_S32x2048x64_S2048x2048_S32x64x2048_1_1_02_0_n_n none U (BAND w)) transposes_S32x64x2048_S32x2048x64_0_2_1) (broadcastInDim S32x2048x64 ![0, 1, 2] bcast_S1x2048x1_S32x2048x64_0_1_2 (broadcastInDim S1x2048x1 ![1] bcast_S2048_S1x2048x1_1 (sitofp .f32 (minsi (addi (iotaInDim S2048 32 0) (broadcastInDim S2048 ![] bcast_S_S2048 (constantI S_ 32 1#32))) (broadcastInDim S2048 ![] bcast_S_S2048 (constantI S_ 32 w))))))) U) M

/-- element by element. -/
theorem rpool_at (U : FVec Ideal S32x2048x64 .f32) (w : BitVec 32) (M : FVec Ideal S64x64 .f32) (b : Fin 32) (s : Fin 2048) (l : Fin 64) :
    POOL U w M (ix3 b s l) = ∑ k : Fin 64, (Ideal.div (∑ t : Fin 2048, U (ix3 b t k) * BAND w (ix2 s t))
      (FloatOps.sitofp (F := Ideal) .f32 (IntOp.minsi (IntOp.addi (BitVec.ofNat 32 s) 1#32) w)) - U (ix3 b s k)) * M (ix2 k l) := by
  unfold POOL
  generalize BAND w = A
  pointwise []

end Cert.MixInRefIdeal.Mix

end
-- ==== Proof.MixInKeys.lean ====
/-
  The reference's last two results as its operations compose: the keys with their gate lanes, and the pooled averages beside
  the convolution.
-/
module

public import proofs.«01_k».proof.Proof.MixInRef

@[expose] public section

set_option maxRecDepth 16384

noncomputable section

open Idealize.ShloMosaic Idealize.ShloMosaic.TcCoe Idealize.SL.Sem

namespace Cert.MixInRefIdeal.Mix

open Cert.MixInRefIdeal Cert.MixInRefIdeal.Gen

/-- Four times 64 lanes side by side, -/
def BESIDE (a b c d : FVec Ideal S32x2048x64 .f32) : FVec Ideal S32x2048x256 .f32 :=
  concatenate S32x2048x256 2 [⟨S32x2048x64, a⟩, ⟨S32x2048x64, b⟩, ⟨S32x2048x64, c⟩, ⟨S32x2048x64, d⟩] concatenates_S32x2048x64_S32x2048x64_S32x2048x64_S32x2048x64_S32x2048x256_d2

/-- element by element. -/
theorem beside_at (u : Fin 4 → FVec Ideal S32x2048x64 .f32) (b : Fin 32) (s : Fin 2048) (g : Fin 4) (l : Fin 64) :
    BESIDE (u 0) (u 1) (u 2) (u 3) (ix3 b s ⟨g * 64 + l, by omega⟩) = u g (ix3 b s l) := by
  have hl : (l : ℕ) < 64 := l.isLt
  fin_cases g <;> pointwise [BESIDE]
  · exact (dif_neg (by omega)).trans ((dif_neg (by omega)).trans ((dif_pos (by omega)).trans (congrArg (fun j => u 2 (ix3 b s j)) (Fin.ext (by show 128 + (l : ℕ) - 64 - 64 = l; omega)))))
  · exact (dif_neg (by omega)).trans ((dif_neg (by omega)).trans ((dif_neg (by omega)).trans (congrArg (fun j => u 3 (ix3 b s j)) (Fin.ext (by show 192 + (l : ℕ) - 64 - 64 - 64 = l; omega)))))

/-- The lanes to be pooled, -/
def LANES (P : FVec Ideal S32x2048x2568 .f32) : FVec Ideal S32x2048x256 .f32 :=
  extractStridedSlice S32x2048x256 ![0, 0, 1544] P slices_S32x2048x2568_S32x2048x256_0_0_1544

/-- in their four groups, -/
def GROUP (P : FVec Ideal S32x2048x2568 .f32) : Fin 4 → FVec Ideal S32x2048x64 .f32 :=
  ![extractStridedSlice S32x2048x64 ![0, 0, 0] (LANES P) slices_S32x2048x256_S32x2048x64_0_0_0,
    extractStridedSlice S32x2048x64 ![0, 0, 64] (LANES P) slices_S32x2048x256_S32x2048x64_0_0_64,
    extractStridedSlice S32x2048x64 ![0, 0, 128] (LANES P) slices_S32x2048x256_S32x2048x64_0_0_128,
    extractStridedSlice S32x2048x64 ![0, 0, 192] (LANES P) slices_S32x2048x256_S32x2048x64_0_0_192]

/-- element by element, -/
theorem group_at (P : FVec Ideal S32x2048x2568 .f32) (g : Fin 4) (b : Fin 32) (s : Fin 2048) (l : Fin 64) :
    GROUP P g (ix3 b s l) = P (ix3 b s ⟨1544 + (g * 64 + l), by omega⟩) := by
  fin_cases g <;> simp only [GROUP] <;> pointwise [LANES] <;> (refine congrArg (fun j => P (ix3 b s j)) (Fin.ext ?_); simp <;> omega)

/-- the groups' weights, -/
def WEIGHT (A : FVec Ideal S4x4x64x64 .f32) : Fin 4 → FVec Ideal S64x64 .f32 :=
  ![shapeCast _ (extractStridedSlice S1x1x64x64 ![0, 0, 0, 0] A slices_S4x4x64x64_S1x1x64x64_0_0_0_0) shapeCasts_S1x1x64x64_S64x64,
    shapeCast _ (extractStridedSlice S1x1x64x64 ![0, 1, 0, 0] A slices_S4x4x64x64_S1x1x64x64_0_1_0_0) shapeCasts_S1x1x64x64_S64x64,
    shapeCast _ (extractStridedSlice S1x1x64x64 ![0, 2, 0, 0] A slices_S4x4x64x64_S1x1x64x64_0_2_0_0) shapeCasts_S1x1x64x64_S64x64,
    shapeCast _ (extractStridedSlice S1x1x64x64 ![0, 3, 0, 0] A slices_S4x4x64x64_S1x1x64x64_0_3_0_0) shapeCasts_S1x1x64x64_S64x64]

/-- element by element, -/
theorem weight_at (A : FVec Ideal S4x4x64x64 .f32) (g : Fin 4) (k l : Fin 64) : WEIGHT A g (ix2 k l) = A (ix4 0 g k l) := by
  fin_cases g <;> simp only [WEIGHT] <;> pointwise []

/-- and the pooled groups. -/
def POOLS (P : FVec Ideal S32x2048x2568 .f32) (A : FVec Ideal S4x4x64x64 .f32) : Fin 4 → FVec Ideal S32x2048x64 .f32 :=
  ![POOL (GROUP P 0) 2#32 (WEIGHT A 0), POOL (GROUP P 1) 4#32 (WEIGHT A 1), POOL (GROUP P 2) 8#32 (WEIGHT A 2), POOL (GROUP P 3) 16#32 (WEIGHT A 3)]

/-- The rows in one array, two groups of 256 lanes side by side, the first scaled, -/
def JOIN (U V : FVec Ideal S32x2048x256 .f32) (Q : FVec Ideal S4x256 .f32) : FVec Ideal S65536x512 .bf16 :=
  truncf .bf16 (shapeCast _ (concatenate S32x2048x512 2 [⟨S32x2048x256, (mulf U (broadcastInDim S32x2048x256 ![0, 1, 2] bcast_S1x1x256_S32x2048x256_0_1_2 (broadcastInDim S1x1x256 ![2] bcast_S256_S1x1x256_2 (shapeCast _ (extractStridedSlice S1x256 ![0, 0] Q slices_S4x256_S1x256_0_0) shapeCasts_S1x256_S256))))⟩, ⟨S32x2048x256, V⟩] concatenates_S32x2048x256_S32x2048x256_S32x2048x512_d2) shapeCasts_S32x2048x512_S65536x512) bitsLt_bf16_f32

/-- element by element. -/
theorem join_at (U V : FVec Ideal S32x2048x256 .f32) (Q : FVec Ideal S4x256 .f32) (n : Fin 65536) (l : Fin 512) :
    JOIN U V Q (ix2 n l) = if h : (l : ℕ) < 256 then U (ix3 ⟨n / 2048, by omega⟩ ⟨n % 2048, by omega⟩ ⟨l, h⟩) * Q (ix2 0 ⟨l, h⟩)
      else V (ix3 ⟨n / 2048, by omega⟩ ⟨n % 2048, by omega⟩ ⟨l - 256, by omega⟩) := by
  pointwise [JOIN]

/-- The pooled averages beside the convolution. -/
def RY (P : FVec Ideal S32x2048x2568 .f32) (A : FVec Ideal S4x4x64x64 .f32) (Q : FVec Ideal S4x256 .f32) (V : FVec Ideal S4x3x256 .f32) : FVec Ideal S65536x512 .bf16 :=
  JOIN (BESIDE (POOLS P A 0) (POOLS P A 1) (POOLS P A 2) (POOLS P A 3)) (CONV P (PAD P) V) Q

/-- Minus a gate's exponent, -/
def MINUS (P : FVec Ideal S32x2048x2568 .f32) (B : FVec Ideal S4x8 .f32) : FVec Ideal S32x2048x8 .f32 :=
  Host.negf (addf (extractStridedSlice S32x2048x8 ![0, 0, 1536] P slices_S32x2048x2568_S32x2048x8_0_0_1536) (broadcastInDim S32x2048x8 ![0, 1, 2] bcast_S1x1x8_S32x2048x8_0_1_2 (broadcastInDim S1x1x8 ![2] bcast_S8_S1x1x8_2 (shapeCast _ (extractStridedSlice S1x8 ![0, 0] B slices_S4x8_S1x8_0_0) shapeCasts_S1x8_S8))))

/-- element by element, -/
theorem minus_at (P : FVec Ideal S32x2048x2568 .f32) (B : FVec Ideal S4x8 .f32) (b : Fin 32) (s : Fin 2048) (h : Fin 8) :
    MINUS P B (ix3 b s h) = -(P (ix3 b s ⟨1536 + h, by omega⟩) + B (ix2 0 h)) := by
  pointwise [MINUS]

/-- zeros, -/
def NIL : FVec Ideal S32x2048x8 .f32 := broadcastInDim S32x2048x8 ![] bcast_S_S32x2048x8 (constant S_ .f32 0x00000000#32)

/-- the logarithm of the gate, -/
def LOGS (N : FVec Ideal S32x2048x8 .f32) : FVec Ideal S32x2048x8 .f32 :=
  Host.negf (select (cmpf .une (subf N NIL) (subf N NIL)) (addf N NIL) (addf (maximumf N NIL) (Host.log1p (Host.exp (Host.negf (Host.absf (subf N NIL)))))))

/-- element by element, -/
theorem logs_at (N : FVec Ideal S32x2048x8 .f32) (b : Fin 32) (s : Fin 2048) (h : Fin 8) :
    LOGS N (ix3 b s h) = -(max (N (ix3 b s h)) 0 + Ideal.log1p (Ideal.exp (-(max (N (ix3 b s h)) (-(N (ix3 b s h))))))) := by
  pointwise [LOGS, NIL]
  rw [if_neg (by simp)]
  rfl

/-- and what is cumulated, in base two. -/
def DECAY (L : FVec Ideal S32x2048x8 .f32) : FVec Ideal S32x2048x8 .f32 :=
  Host.negf (mulf (transpose S32x2048x8 [0, 2, 1] (Host.dotGeneral dot_S32x2048x8_S2048x2048_S32x8x2048_1_1_02_0_n_n none L UNTIL) transposes_S32x8x2048_S32x2048x8_0_2_1) (broadcastInDim S32x2048x8 ![] bcast_S_S32x2048x8 (constant S_ .f32 0x3FB8AA3B#32)))

/-- element by element. -/
theorem decay_at (L : FVec Ideal S32x2048x8 .f32) (b : Fin 32) (s : Fin 2048) (h : Fin 8) :
    DECAY L (ix3 b s h) = -((∑ t : Fin 2048, L (ix3 b t h) * UNTIL (ix2 s t)) * Ideal.ofBits .f32 0x3FB8AA3B#32) := by
  unfold DECAY
  generalize UNTIL = A
  pointwise []

/-- The gate lanes: three a head, of which the first holds the head's gate, and zeros. -/
def GATES (D : FVec Ideal S32x2048x8 .f32) : FVec Ideal S32x2048x128 .f32 :=
  concatenate S32x2048x128 2 [⟨S32x2048x24, (shapeCast _ ((concatenate S32x2048x8x3 3 [⟨S32x2048x8x1, broadcastInDim S32x2048x8x1 ![0, 1, 2] bcast_S32x2048x8_S32x2048x8x1_0_1_2 D⟩, ⟨S32x2048x8x1, broadcastInDim S32x2048x8x1 ![0, 1, 2] bcast_S32x2048x8_S32x2048x8x1_0_1_2 NIL⟩, ⟨S32x2048x8x1, broadcastInDim S32x2048x8x1 ![0, 1, 2] bcast_S32x2048x8_S32x2048x8x1_0_1_2 NIL⟩] concatenates_S32x2048x8x1_S32x2048x8x1_S32x2048x8x1_S32x2048x8x3_d3 : FVec Ideal S32x2048x8x3 .f32)) shapeCasts_S32x2048x8x3_S32x2048x24)⟩, ⟨S32x2048x104, (broadcastInDim S32x2048x104 ![] bcast_S_S32x2048x104 (constant S_ .f32 0x00000000#32))⟩] concatenates_S32x2048x24_S32x2048x104_S32x2048x128_d2

/-- element by element. -/
theorem gates_at (D : FVec Ideal S32x2048x8 .f32) (b : Fin 32) (s : Fin 2048) (l : Fin 128) :
    GATES D (ix3 b s l) = if h : (l : ℕ) < 24 ∧ (l : ℕ) % 3 = 0 then D (ix3 b s ⟨l / 3, by omega⟩) else 0 := by
  generalize hR : (if h : (l : ℕ) < 24 ∧ (l : ℕ) % 3 = 0 then D (ix3 b s ⟨l / 3, by omega⟩) else (0 : EReal)) = R
  have hp : (l : ℕ) < 24 → (l : ℕ) % 3 = 0 → ∀ j : Fin 8, (j : ℕ) = l / 3 → D (ix3 b s j) = R := fun h1 h2 j hj => by
    rw [← hR, dif_pos ⟨h1, h2⟩]
    exact congrArg (fun x => D (ix3 b s x)) (Fin.ext hj)
  have hn : ¬ ((l : ℕ) < 24 ∧ (l : ℕ) % 3 = 0) → (0 : EReal) = R := fun h => by rw [← hR, dif_neg h]
  pointwise [GATES, NIL]
  by_cases h1 : (l : ℕ) < 24
  · refine (dif_pos h1).trans ?_
    by_cases h2 : (l : ℕ) % 3 = 0
    · exact (dif_pos (by omega)).trans (hp h1 h2 _ rfl)
    · refine (dif_neg (by omega)).trans (Eq.trans ?_ (hn fun h => h2 h.2))
      split <;> rfl
  · exact (dif_neg h1).trans (hn fun h => h1 h.1)

/-- The keys, each head pair's 128 lanes followed by the gate lanes, the rows in one array, -/
def PAIRS (P : FVec Ideal S32x2048x2568 .f32) (D : FVec Ideal S32x2048x128 .f32) : FVec Ideal S65536x1024 .bf16 :=
  truncf .bf16 (shapeCast _ (shapeCast _ (concatenate S32x2048x4x256 3 [⟨S32x2048x4x128, (shapeCast _ (extractStridedSlice S32x2048x512 ![0, 0, 512] P slices_S32x2048x2568_S32x2048x512_0_0_512) shapeCasts_S32x2048x512_S32x2048x4x128)⟩, ⟨S32x2048x4x128, (broadcastInDim S32x2048x4x128 ![0, 1, 2, 3] bcast_S32x2048x1x128_S32x2048x4x128_0_1_2_3 (broadcastInDim S32x2048x1x128 ![0, 1, 3] bcast_S32x2048x128_S32x2048x1x128_0_1_3 D))⟩] concatenates_S32x2048x4x128_S32x2048x4x128_S32x2048x4x256_d3) shapeCasts_S32x2048x4x256_S32x2048x1024) shapeCasts_S32x2048x1024_S65536x1024) bitsLt_bf16_f32

/-- element by element. -/
theorem pairs_at (P : FVec Ideal S32x2048x2568 .f32) (D : FVec Ideal S32x2048x128 .f32) (n : Fin 65536) (l : Fin 1024) :
    PAIRS P D (ix2 n l) = if (l / 128 : ℕ) % 2 = 0 then P (ix3 ⟨n / 2048, by omega⟩ ⟨n % 2048, by omega⟩ ⟨512 + (l / 256 * 128 + l % 128), by omega⟩)
      else D (ix3 ⟨n / 2048, by omega⟩ ⟨n % 2048, by omega⟩ ⟨l % 128, by omega⟩) := by
  generalize hR : (if (l / 128 : ℕ) % 2 = 0 then P (ix3 ⟨n / 2048, by omega⟩ ⟨n % 2048, by omega⟩ ⟨512 + (l / 256 * 128 + l % 128), by omega⟩)
      else D (ix3 ⟨n / 2048, by omega⟩ ⟨n % 2048, by omega⟩ ⟨l % 128, by omega⟩)) = R
  have hp : (l / 128 : ℕ) % 2 = 0 → ∀ j : Fin 2568, (j : ℕ) = 512 + (l / 256 * 128 + l % 128)
      → P (ix3 ⟨n / 2048, by omega⟩ ⟨n % 2048, by omega⟩ j) = R := fun h j hj => by
    rw [← hR, if_pos h]
    exact congrArg (fun x => P (ix3 _ _ x)) (Fin.ext hj)
  have hn : ¬ (l / 128 : ℕ) % 2 = 0 → ∀ j : Fin 128, (j : ℕ) = l % 128
      → D (ix3 ⟨n / 2048, by omega⟩ ⟨n % 2048, by omega⟩ j) = R := fun h j hj => by
    rw [← hR, if_neg h]
    exact congrArg (fun x => D (ix3 _ _ x)) (Fin.ext hj)
  clear hR
  pointwise [PAIRS]
  by_cases h : (l : ℕ) % 256 < 128
  · refine (dif_pos h).trans (hp (by omega) _ ?_)
    show 512 + ((l : ℕ) / 256 * 128 + l % 256) = _
    omega
  · refine (dif_neg h).trans (hn (by omega) _ ?_)
    show (l : ℕ) % 256 - 128 = _
    omega

/-- The keys with the gates of the projection. -/
def RK (P : FVec Ideal S32x2048x2568 .f32) (B : FVec Ideal S4x8 .f32) : FVec Ideal S65536x1024 .bf16 :=
  PAIRS P (GATES (DECAY (LOGS (MINUS P B))))

end Cert.MixInRefIdeal.Mix

end
-- ==== Proof.MixInScan.lean ====
/-
  The running sums of the sub-layer's gates within a block: doubling steps add up windows, and the log-sigmoid they add up.
-/
module

public import proofs.«01_k».proof.Proof.Gen.MixInIdeal.Skeleton
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.MixInIdeal.Value

open Cert.MixInIdeal Cert.MixInIdeal.Gen

/-- The sum of the last `n` terms of a sequence up to term `r`. -/
def win (a : ℕ → EReal) (n r : ℕ) : EReal := ∑ i ∈ Finset.range n, if i ≤ r then a (r - i) else 0

/-- A window of one term. -/
theorem win_one (a : ℕ → EReal) (r : ℕ) : win a 1 r = a r := by simp [win]

/-- Two windows side by side are a window of both lengths together. -/
theorem win_add (a : ℕ → EReal) (n k r : ℕ) : win a (n + k) r = win a n r + if n ≤ r then win a k (r - n) else 0 := by
  unfold win
  rw [Finset.sum_range_add]
  congr 1
  by_cases h : n ≤ r
  · rw [if_pos h]
    refine Finset.sum_congr rfl fun i _ => ?_
    by_cases h2 : n + i ≤ r
    · rw [if_pos h2, if_pos (by omega), Nat.sub_sub]
    · rw [if_neg h2, if_neg (by omega)]
  · rw [if_neg h]
    exact Finset.sum_eq_zero fun i _ => if_neg (by omega)

/-- A window that reaches back to the first term is the whole running sum. -/
theorem win_all (a : ℕ → EReal) (n r : ℕ) (h : r < n) : win a n r = ∑ i ∈ Finset.range (r + 1), a i := by
  obtain ⟨k, rfl⟩ : ∃ k, n = r + 1 + k := ⟨n - (r + 1), by omega⟩
  rw [win_add, if_neg (by omega), add_zero, ← Finset.sum_range_reflect]
  unfold win
  refine Finset.sum_congr rfl fun i hi => ?_
  have := Finset.mem_range.mp hi
  rw [if_pos (by omega)]
  congr 1

/-- A window depends on the terms up to its end only. -/
theorem win_congr (a b : ℕ → EReal) (n r : ℕ) (h : ∀ i, i ≤ r → a i = b i) : win a n r = win b n r := by
  unfold win
  refine Finset.sum_congr rfl fun i _ => ?_
  split
  · exact h _ (by omega)
  · rfl

/-- The word of zero. -/
theorem zero_word : Ideal.ofBits .f32 0#32 = 0 := by simp [Ideal.ofBits, Ideal.ieee]

/-- A step of the scan: each row from `n` on gains the row `n` above it. -/
def step (n : ℕ) (v : FVec Ideal S512x128 .f32) : FVec Ideal S512x128 .f32 :=
  addf v (select (cmpi .sge (iota .tc S512x128 32 [0] iota_S512x128_d0_w32) (broadcast S512x128 (BitVec.ofNat 32 n)))
    (dynamicRotate 0 (BitVec.ofNat 32 n) none v rotates_S512x128_d0) (broadcast S512x128 (Ideal.ofBits .f32 0#32)))

/-- One step of the scan doubles the window. -/
theorem step_win (v : FVec Ideal S512x128 .f32) (a : ℕ → EReal) (n : ℕ) (hn : n < 512) (l : Fin 128)
    (hv : ∀ r : Fin 512, v (ix2 r l) = win a n r) (r : Fin 512) : step n v (ix2 r l) = win a (n + n) r := by
  rw [win_add, ← hv r]
  pointwise [step]
  rw [WordCmp.cmpi_sge_ofNat (by have := r.isLt; omega) (by omega), BitVec.toNat_ofNat]
  congr 1
  by_cases h : n ≤ r
  · rw [if_pos h, decide_eq_true h]
    refine Eq.trans ?_ ((hv ⟨r - n, by omega⟩))
    show v _ = _
    congr 2
    apply Fin.ext
    show ((r : ℕ) + 512 - n % 2 ^ 32 % 512) % 512 = r - n
    have := r.isLt
    omega
  · rw [if_neg h, decide_eq_false h]
    rfl

/-- The log forget gates of a block of rows, as the kernel takes them. -/
def gates (v32 : FVec Ideal S512x128 .f32) (v33 : Vec Ideal S1x1x128 .f32) : FVec Ideal S512x128 .f32 :=
  subf
    (minimumf (addf v32 (broadcastTo S512x128 (shapeCast S1x128 v33 shapeCasts_S1x1x128_S1x128) broadcasts_S1x128_S512x128))
      (broadcast S512x128 (Ideal.ofBits .f32 0#32)))
    (log1p (exp (subf (broadcast S512x128 (Ideal.ofBits .f32 0#32))
      (absf (addf v32 (broadcastTo S512x128 (shapeCast S1x128 v33 shapeCasts_S1x1x128_S1x128) broadcasts_S1x128_S512x128))))))

/-- The log of the sigmoid as the kernel writes it. -/
def lsig (f : EReal) : EReal := min f 0 - Ideal.log1p (Ideal.exp (0 - max f (-f)))

/-- The gates of a block are log-sigmoids. -/
theorem gates_at (v32 : FVec Ideal S512x128 .f32) (v33 : Vec Ideal S1x1x128 .f32) (r : Fin 512) (l : Fin 128) :
    gates v32 v33 (ix2 r l) = lsig (v32 (ix2 r l) + v33 (ix3 0 0 l)) := by
  pointwise [gates, lsig]
  rfl

/-- What the call scans in a block is the scan above, -/
theorem pay11_eq (v32 : FVec Ideal S512x128 .f32) (v33 : Vec Ideal S1x1x128 .f32) :
    k0_pay11 v32 v33 = step 16 (step 8 (step 4 (step 2 (step 1 (gates v32 v33))))) := rfl

/-- and what it adds is the row carried in. -/
theorem pay12_eq (v75 : FVec Ideal S512x128 .f32) (v100 : Vec Ideal S1x128 .f32) :
    k0_pay12 (iota .tc S512x128 32 [0] iota_S512x128_d0_w32) v75 v100
      = addf (step 256 (step 128 (step 64 (step 32 v75)))) (broadcastTo S512x128 v100 broadcasts_S1x128_S512x128) := rfl

/-- The nine steps take the running sum over the block's rows, to which the carried row is added. -/
theorem scan (v32 : FVec Ideal S512x128 .f32) (v33 : Vec Ideal S1x1x128 .f32) (v100 : Vec Ideal S1x128 .f32) (l : Fin 128) (a : ℕ → EReal)
    (ha : ∀ r : Fin 512, lsig (v32 (ix2 r l) + v33 (ix3 0 0 l)) = a r) (r : Fin 512) :
    k0_pay12 (iota .tc S512x128 32 [0] iota_S512x128_d0_w32) (k0_pay11 v32 v33) v100 (ix2 r l)
      = ∑ i ∈ Finset.range (r + 1), a i + v100 (ix2 0 l) := by
  rw [pay12_eq, pay11_eq, ← win_all a 512 r r.isLt]
  refine (show _ = step 256 (step 128 (step 64 (step 32 (step 16 (step 8 (step 4 (step 2 (step 1 (gates v32 v33))))))))) (ix2 r l) + v100 (ix2 0 l) from ?_).trans (congrArg (· + v100 (ix2 0 l)) ?_)
  · generalize step 256 _ = w
    pointwise []
  refine step_win _ a 256 (by omega) l ?_ r
  refine step_win _ a 128 (by omega) l ?_
  refine step_win _ a 64 (by omega) l ?_
  refine step_win _ a 32 (by omega) l ?_
  refine step_win _ a 16 (by omega) l ?_
  refine step_win _ a 8 (by omega) l ?_
  refine step_win _ a 4 (by omega) l ?_
  refine step_win _ a 2 (by omega) l ?_
  refine step_win _ a 1 (by omega) l fun r => ?_
  rw [win_one, gates_at, ha]

end Cert.MixInIdeal.Value

end
-- ==== Proof.MixInTile.lean ====
/-
  The window sums of the pooling within a block, with the rows handed on from the block before.
-/
module

public import proofs.«01_k».proof.Proof.MixInScan

@[expose] public section

set_option maxRecDepth 16384

noncomputable section

open Idealize.ShloMosaic Idealize.ShloMosaic.TcCoe Idealize.SL.Sem

namespace Cert.MixInIdeal.Value

open Cert.MixInIdeal Cert.MixInIdeal.Gen

/-- A step of the pooling windows: each row gains the row `n` above it. -/
def roll (n : ℕ) (v : FVec Ideal S528x256 .f32) : FVec Ideal S528x256 .f32 :=
  addf v (dynamicRotate 0 (BitVec.ofNat 32 n) none v rotates_S528x256_d0)

/-- One step doubles the window, in the rows that have both windows above them. -/
theorem roll_win (v : FVec Ideal S528x256 .f32) (a : ℕ → EReal) (n k : ℕ) (hn : n < 528) (hk : n ≤ k) (c : Fin 256)
    (hv : ∀ e : Fin 528, k - n ≤ e → v (ix2 e c) = win a n e) (e : Fin 528) (he : k ≤ e) : roll n v (ix2 e c) = win a (n + n) e := by
  rw [win_add, if_pos (by omega), ← hv e (by omega)]
  pointwise [roll]
  rw [BitVec.toNat_ofNat]
  congr 1
  refine Eq.trans ?_ (hv ⟨e - n, by omega⟩ (by show k - n ≤ (e : ℕ) - n; omega))
  show v _ = _
  congr 2
  apply Fin.ext
  show ((e : ℕ) + 528 - n % 2 ^ 32 % 528) % 528 = e - n
  have := e.isLt
  omega

/-- The carried rows over the block's own. -/
def ext (v23 : FVec Ideal S512x2688 .f32) (v148 : Vec Ideal S16x256 .f32) : FVec Ideal S528x256 .f32 :=
  concatenate S528x256 0 [⟨S16x256, v148⟩, ⟨S512x256, k0_pay24 v23⟩] concatenates_S16x256_S512x256_S528x256_d0

/-- The lane's pooling group: one of four, of 64 lanes each. -/
theorem group_at (r : Fin 512) (c : Fin 256) : k0_pay25 (ix2 r c) = BitVec.ofNat 32 (c / 64) := by
  have h : ∀ c : Fin 256, IntOp.shrui .vector (BitVec.ofNat 32 c) 6#32 = BitVec.ofNat 32 (c / 64) := by decide +kernel
  pointwise [k0_pay25]
  exact h c

/-- The window of a lane's group. -/
def wsize (c : Fin 256) : ℕ := if (c / 64 : ℕ) = 0 then 2 else if (c / 64 : ℕ) = 1 then 4 else if (c / 64 : ℕ) = 2 then 8 else 16

/-- The window of a lane's group. -/
theorem window_at (r : Fin 512) (c : Fin 256) : k0_pay27 (ix2 r c) = BitVec.ofNat 32 (wsize c) := by
  have h : ∀ c : Fin 256, Scalar.select (IntOp.cmpi .eq (BitVec.ofNat 32 (c / 64)) 0#32) 2#32
      (Scalar.select (IntOp.cmpi .eq (BitVec.ofNat 32 (c / 64)) 1#32) 4#32
        (Scalar.select (IntOp.cmpi .eq (BitVec.ofNat 32 (c / 64)) 2#32) 8#32 16#32)) = BitVec.ofNat 32 (wsize c) := by decide +kernel
  rw [← h c, ← group_at r c]
  rfl

/-- The window sums, chosen by group. -/
theorem pay26_eq (v23 : FVec Ideal S512x2688 .f32) (v148 : Vec Ideal S16x256 .f32) (r : Fin 512) (c : Fin 256) (w0 w1 w2 w3 : FVec Ideal S528x256 .f32)
    (h0 : w0 = roll 1 (ext v23 v148)) (h1 : w1 = roll 2 w0) (h2 : w2 = roll 4 w1) (h3 : w3 = roll 8 w2) :
    k0_pay26 v23 v148 (ix2 r c) =
      Scalar.select (IntOp.cmpi .eq (BitVec.ofNat 32 (c / 64)) 0#32) (w0 (ix2 ⟨16 + r, by omega⟩ c))
      (Scalar.select (IntOp.cmpi .eq (BitVec.ofNat 32 (c / 64)) 1#32) (w1 (ix2 ⟨16 + r, by omega⟩ c))
        (Scalar.select (IntOp.cmpi .eq (BitVec.ofNat 32 (c / 64)) 2#32) (w2 (ix2 ⟨16 + r, by omega⟩ c)) (w3 (ix2 ⟨16 + r, by omega⟩ c)))) := by
  refine (show _ = (select (cmpi .eq k0_pay25 (broadcast S512x256 0#32)) (extractStridedSlice S512x256 ![16, 0] (roll 1 (ext v23 v148)) slices_S528x256_o16_0_S512x256)
    (select (cmpi .eq k0_pay25 (broadcast S512x256 1#32)) (extractStridedSlice S512x256 ![16, 0] (roll 2 (roll 1 (ext v23 v148))) slices_S528x256_o16_0_S512x256)
    (select (cmpi .eq k0_pay25 (broadcast S512x256 2#32)) (extractStridedSlice S512x256 ![16, 0] (roll 4 (roll 2 (roll 1 (ext v23 v148)))) slices_S528x256_o16_0_S512x256)
     (extractStridedSlice S512x256 ![16, 0] (roll 8 (roll 4 (roll 2 (roll 1 (ext v23 v148))))) slices_S528x256_o16_0_S512x256)))) (ix2 r c) from rfl).trans ?_
  rw [← h0, ← h1, ← h2, ← h3, ← group_at r c]
  clear h0 h1 h2 h3
  generalize hg : (k0_pay25 : IVec S512x256 32) = g
  pointwise []

/-- The pooled sum of a lane: its group's window over the rows so far. -/
theorem pool_sum (v23 : FVec Ideal S512x2688 .f32) (v148 : Vec Ideal S16x256 .f32) (a : ℕ → EReal) (c : Fin 256)
    (h0 : ∀ i : Fin 16, v148 (ix2 i c) = a i) (h1 : ∀ r : Fin 512, v23 (ix2 r ⟨1664 + c, by omega⟩) = a (16 + r)) (r : Fin 512) :
    k0_pay26 v23 v148 (ix2 r c) = win a (wsize c) (16 + r) := by
  have he : ∀ e : Fin 528, ext v23 v148 (ix2 e c) = win a 1 e := by
    intro e
    rw [win_one]
    by_cases h : (e : ℕ) < 16
    · refine Eq.trans ?_ (h0 ⟨e, h⟩)
      pointwise [ext]
      simp [h]
    · have hx := h1 ⟨e - 16, by omega⟩
      rw [show 16 + ((⟨e - 16, by omega⟩ : Fin 512) : ℕ) = e from by show 16 + ((e : ℕ) - 16) = e; omega] at hx
      refine Eq.trans ?_ hx
      pointwise [ext, k0_pay24]
      simp [h]
  have hw0 := fun e he1 => roll_win (ext v23 v148) a 1 1 (by omega) (by omega) c (fun e _ => he e) e he1
  have hw1 := fun e he1 => roll_win _ a 2 3 (by omega) (by omega) c (fun e h => hw0 e (by omega)) e he1
  have hw2 := fun e he1 => roll_win _ a 4 7 (by omega) (by omega) c (fun e h => hw1 e (by omega)) e he1
  have hw3 := fun e he1 => roll_win _ a 8 15 (by omega) (by omega) c (fun e h => hw2 e (by omega)) e he1
  rw [pay26_eq v23 v148 r c _ _ _ _ rfl rfl rfl rfl, hw0 _ (by show 1 ≤ 16 + (r : ℕ); omega), hw1 _ (by show 3 ≤ 16 + (r : ℕ); omega),
    hw2 _ (by show 7 ≤ 16 + (r : ℕ); omega), hw3 _ (by show 15 ≤ 16 + (r : ℕ); omega)]
  have hc : (c / 64 : ℕ) = 0 ∨ (c / 64 : ℕ) = 1 ∨ (c / 64 : ℕ) = 2 ∨ (c / 64 : ℕ) = 3 := by have := c.isLt; omega
  unfold wsize
  rcases hc with h | h | h | h <;> rw [h] <;> rfl

/-- The mean over the window, less the row itself, through the block-diagonal weight and the scale. -/
theorem pay28_at (v147 v173 : FVec Ideal S512x256 .f32) (v186 : IVec S512x256 32) (v187 : BitVec 32) (v188 : IVec S512x256 32)
    (v198 : Vec Ideal S1x256x256 .bf16) (v201 : Vec Ideal S1x1x256 .f32) (r : Fin 512) (c : Fin 256) :
    k0_pay28 v147 v173 v186 v187 v188 v198 v201 (ix2 r c) =
      (∑ k : Fin 256, (Ideal.div (v173 (ix2 r k)) (FloatOps.sitofp (F := Ideal) .f32 (IntOp.minsi (v187 + v188 (ix2 r k) + 1#32) (v186 (ix2 r k))))
        - v147 (ix2 r k)) * v198 (ix3 0 k c)) * v201 (ix3 0 0 c) := by
  pointwise [k0_pay28]
  rfl

/-- The carried rows over the block's own, of the convolution's products. -/
theorem pay31_at (v23 : FVec Ideal S512x2688 .f32) (v212 : Vec Ideal S8x256 .f32) (a : ℕ → EReal) (c : Fin 256)
    (h0 : ∀ i : Fin 8, v212 (ix2 i c) = a i)
    (h1 : ∀ r : Fin 512, v23 (ix2 r ⟨2176 + c, by omega⟩) * v23 (ix2 r ⟨2432 + c, by omega⟩) = a (8 + r)) (e : Fin 520) :
    k0_pay31 v23 v212 (ix2 e c) = a e := by
  by_cases h : (e : ℕ) < 8
  · refine Eq.trans ?_ (h0 ⟨e, h⟩)
    pointwise [k0_pay31]
    simp [h]
  · have hx := h1 ⟨e - 8, by omega⟩
    rw [show 8 + ((⟨e - 8, by omega⟩ : Fin 512) : ℕ) = e from by show 8 + ((e : ℕ) - 8) = e; omega] at hx
    refine Eq.trans ?_ hx
    pointwise [k0_pay31, k0_pay30]
    simp [h]

/-- The convolution branch: the gate times the three shifted products. -/
theorem conv_at (v23 : FVec Ideal S512x2688 .f32) (v212 : Vec Ideal S8x256 .f32) (w2 w1 w0 : Vec Ideal S1x1x256 .f32) (a : ℕ → EReal) (c : Fin 256)
    (h0 : ∀ i : Fin 8, v212 (ix2 i c) = a i)
    (h1 : ∀ r : Fin 512, v23 (ix2 r ⟨2176 + c, by omega⟩) * v23 (ix2 r ⟨2432 + c, by omega⟩) = a (8 + r)) (r : Fin 512) :
    k0_pay3 v23 (k0_pay31 v23 v212) (k0_pay32 v23 v212 w2 w1) (k0_pay33 w0) (ix2 r c)
      = v23 (ix2 r ⟨1920 + c, by omega⟩) * ((w2 (ix3 0 0 c) * a (8 + r) + w1 (ix3 0 0 c) * a (7 + r)) + w0 (ix3 0 0 c) * a (6 + r)) := by
  have hx := pay31_at v23 v212 a c h0 h1
  have e0 := hx ⟨8 + r, by omega⟩
  have e1 := hx ⟨7 + r, by omega⟩
  have e2 := hx ⟨6 + r, by omega⟩
  simp only [] at e0 e1 e2
  rw [← e0, ← e1, ← e2]
  unfold k0_pay32
  generalize k0_pay31 v23 v212 = w
  pointwise [k0_pay3, k0_pay33]
  have q1 : (⟨(8 + (r : ℕ) + 520 - 1) % 520, Nat.mod_lt _ (by omega)⟩ : Fin 520) = ⟨7 + r, by omega⟩ := Fin.ext (by show (8 + (r : ℕ) + 520 - 1) % 520 = 7 + r; omega)
  have q2 : (⟨(8 + (r : ℕ) + 520 - 2) % 520, Nat.mod_lt _ (by omega)⟩ : Fin 520) = ⟨6 + r, by omega⟩ := Fin.ext (by show (8 + (r : ℕ) + 520 - 2) % 520 = 6 + r; omega)
  exact congrArg₂ (fun x y => v23 (ix2 r ⟨1920 + c, by omega⟩) * ((w2 (ix3 0 0 c) * w (ix2 ⟨8 + r, by omega⟩ c) + w1 (ix3 0 0 c) * w (ix2 x c)) + w0 (ix3 0 0 c) * w (ix2 y c))) q1 q2

end Cert.MixInIdeal.Value

end
-- ==== Proof.MixInBlocks.lean ====
/-
  The blocks the call for the sub-layer's inputs reads at a point of its grid, element by element, as its arguments hold them.
-/
module

public import proofs.«01_k».proof.Proof.Gen.MixInIdeal.Frame.Runs
public import proofs.«01_k».proof.Proof.MixInTile
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixInIdeal.Value

open Cert.MixInIdeal Cert.MixInIdeal.Gen

variable (m : (ℓ : Loc nD τ sig) → Buf (Elt Ideal) ℓ)

/-- Point `t` of the grid works on row block `t` of the rows and on the layer's parameters; four points make a sequence. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![0, 0] ∧ win0_5.index t = ![0, 0, 0] ∧ win0_6.index t = ![0, 0, 0]
    ∧ win0_7.index t = ![0, 0, 0] ∧ win0_8.index t = ![t.val, 0] ∧ win0_9.index t = ![t.val, 0] ∧ win0_10.index t = ![t.val, 0]
    ∧ win0_11.index t = ![t.val, 0] ∧ (grid0.coords t 0 : ℕ) = t.val :=
  (by decide +kernel : ∀ t : Fin grid0.N, _)

/-- The integer zero is read as zero. -/
theorem sitofp_zero_word : FloatOps.sitofp (F := Ideal) FTy.f32 0#32 = 0 := by
  show (((0#32 : BitVec 32).toInt : ℝ) : EReal) = 0
  simp

/-- A truth value is read as one or zero. -/
theorem uitofp_bool (p : Prop) [Decidable p] : FloatOps.uitofp (F := Ideal) FTy.f32 (BitVec.ofBool (decide p)) = if p then (1 : EReal) else 0 := by
  show (((BitVec.ofBool (decide p)).toNat : ℝ) : EReal) = _
  by_cases h : p <;> simp [h]

/-- The widened weight: between the columns of queries, keys and values and the rest each gate column stands three times,
    and zeros fill a tile of 128. -/
def WIDE (W : FVec Ideal S4x1024x2568 .f32) : FVec Ideal S4x1024x2688 .bf16 :=
  truncf .bf16 (concatenate S4x1024x2688 2
    [⟨S4x1024x1536, extractStridedSlice S4x1024x1536 ![0, 0, 0] W slices_S4x1024x2568_S4x1024x1536_0_0_0⟩,
     ⟨S4x1024x128, pad S4x1024x128 ![0, 0, 0] ![0, 0, 104] ![0, 0, 0]
        (shapeCast S4x1024x24 (broadcastInDim S4x1024x8x3 ![0, 1, 2] bcast_S4x1024x8_S4x1024x8x3_0_1_2
          (extractStridedSlice S4x1024x8 ![0, 0, 1536] W slices_S4x1024x2568_S4x1024x8_0_0_1536)) shapeCasts_S4x1024x8x3_S4x1024x24)
        (sitofp .f32 (constantI S_ 32 0#32)) pads_S4x1024x24_S4x1024x128_000_000_01040 h_S_⟩,
     ⟨S4x1024x1024, extractStridedSlice S4x1024x1024 ![0, 0, 1544] W slices_S4x1024x2568_S4x1024x1024_0_0_1544⟩]
    concatenates_S4x1024x1536_S4x1024x128_S4x1024x1024_S4x1024x2688_d2) bitsLt_bf16_f32

/-- The widened weight stands in the buffer the call reads it from. -/
theorem V_wide (c : Dev nD) : V m c main_v9 = WIDE (m ((c : Thread nD τ).loc main_arg2)) := by
  entry_read
  rfl

/-- The column of the weight that stands in a column of the widened one, -/
def src (l : Fin 2688) : Fin 2568 := ⟨if (l : ℕ) < 1536 then l else if (l : ℕ) < 1560 then 1536 + (l - 1536) / 3 else l - 120, by split <;> [skip; split] <;> omega⟩

/-- but for the zeros. -/
theorem wide_at (W : FVec Ideal S4x1024x2568 .f32) (k : Fin 1024) (l : Fin 2688) :
    WIDE W (ix3 0 k l) = if 1560 ≤ (l : ℕ) ∧ (l : ℕ) < 1664 then (0 : EReal) else W (ix3 0 k (src l)) := by
  have e : ∀ j : Fin 2568, (j : ℕ) = (src l : ℕ) → W (ix3 0 k j) = W (ix3 0 k (src l)) := fun j hj => congrArg (fun x => W (ix3 0 k x)) (Fin.ext hj)
  generalize hR : (if 1560 ≤ (l : ℕ) ∧ (l : ℕ) < 1664 then (0 : EReal) else W (ix3 0 k (src l))) = R
  have hz : 1560 ≤ (l : ℕ) ∧ (l : ℕ) < 1664 → 0 = R := fun h => by rw [← hR, if_pos h]
  have hn : ¬ (1560 ≤ (l : ℕ) ∧ (l : ℕ) < 1664) → W (ix3 0 k (src l)) = R := fun h => by rw [← hR, if_neg h]
  pointwise [WIDE]
  by_cases h : (l : ℕ) < 1536
  · refine (dif_pos h).trans ((e _ ?_).trans (hn (by omega)))
    show (l : ℕ) = if _ then _ else _
    rw [if_pos h]
  · refine (dif_neg h).trans ?_
    by_cases h1 : (l : ℕ) < 1560
    · refine (dif_pos (by omega)).trans ((dif_pos (by omega)).trans ((e _ ?_).trans (hn (by omega))))
      show 1536 + ((l : ℕ) - 1536) / 3 = if _ then _ else if _ then _ else _
      rw [if_neg h, if_pos h1]
    · by_cases h2 : (l : ℕ) < 1664
      · exact (dif_pos (by omega)).trans ((dif_neg (by omega)).trans (Eq.trans sitofp_zero_word (hz (by omega))))
      · refine (dif_neg (by omega)).trans ((e _ ?_).trans (hn (by omega)))
        show 1544 + ((l : ℕ) - 1536 - 128) = if _ then _ else if _ then _ else _
        rw [if_neg h, if_neg h1]
        omega

/-- The gates' biases, each three times, then zeros. -/
def BIAS (B : FVec Ideal S4x8 .f32) : FVec Ideal S4x1x128 .f32 :=
  shapeCast S4x1x128 (pad S4x128 ![0, 0] ![0, 104] ![0, 0] (shapeCast S4x24 (broadcastInDim S4x8x3 ![0, 1] bcast_S4x8_S4x8x3_0_1 B) shapeCasts_S4x8x3_S4x24)
    (sitofp .f32 (constantI S_ 32 0#32)) pads_S4x24_S4x128_000_01040 h_S_) shapeCasts_S4x128_S4x1x128

/-- The biases stand in theirs. -/
theorem V_bias (c : Dev nD) : V m c main_v13 = BIAS (m ((c : Thread nD τ).loc main_arg3)) := by
  entry_read
  rfl

/-- The lane selectors are the printed literal. -/
theorem V_sel (c : Dev nD) : V m c main_cst = (fun i => Ideal.ofBits .f32 (lit0 (S8x128.rowMajor i))) := by
  entry_read
  rfl

/-- The pooling weights of the four groups, one after the other down the diagonal. -/
def BLOCKS (W : FVec Ideal S4x4x64x64 .f32) : FVec Ideal S4x256x256 .bf16 :=
  truncf .bf16 (shapeCast S4x256x256 (mulf
    (broadcastInDim S4x4x64x4x64 ![0, 1, 2, 3, 4] bcast_S4x4x64x1x64_S4x4x64x4x64_0_1_2_3_4
      (broadcastInDim S4x4x64x1x64 ![0, 1, 2, 4] bcast_S4x4x64x64_S4x4x64x1x64_0_1_2_4 W))
    (broadcastInDim S4x4x64x4x64 ![0, 1, 2, 3, 4] bcast_S1x4x1x4x1_S4x4x64x4x64_0_1_2_3_4
      (broadcastInDim S1x4x1x4x1 ![1, 3] bcast_S4x4_S1x4x1x4x1_1_3
        (uitofp .f32 (cmpi .eq (addi (iotaInDim S4x4 32 0) (broadcastInDim S4x4 ![] bcast_S_S4x4 (constantI S_ 32 0#32))) (iotaInDim S4x4 32 1))))))
    shapeCasts_S4x4x64x4x64_S4x256x256) bitsLt_bf16_f32

/-- The block-diagonal pooling weight stands in the buffer the call reads it from. -/
theorem V_pool (c : Dev nD) : V m c main_v26 = BLOCKS (m ((c : Thread nD τ).loc main_arg4)) := by
  entry_read
  rfl

/-- The biases lane by lane. -/
theorem bias_at (B : FVec Ideal S4x8 .f32) (l : Fin 128) :
    BIAS B (ix3 0 0 l) = if h : (l : ℕ) < 24 then B (ix2 0 ⟨l / 3, by omega⟩) else (0 : EReal) := by
  pointwise [BIAS]
  rw [sitofp_zero_word]

/-- The selector: row `i` picks the `i`-th of each gate's three lanes. -/
theorem sel_word : ∀ (i : Fin 8) (l : Fin 128), lit0 (S8x128.rowMajor (ix2 i l)) = if (l : ℕ) < 24 ∧ (l : ℕ) % 3 = i then 0x3F800000#32 else 0#32 := by
  decide +kernel

/-- The word of one. -/
theorem one_word : Ideal.ofBits .f32 0x3F800000#32 = 1 := by
  simp [Ideal.ofBits, Ideal.ieee]
  rw [← EReal.coe_mul, ← EReal.coe_one]; norm_num

/-- Selector `i` has ones in the first 24 lanes that are `i` modulo three. -/
theorem sel_at (c : Dev nD) (i : Fin 8) (l : Fin 128) :
    V m c main_cst (ix2 i l) = if (l : ℕ) < 24 ∧ (l : ℕ) % 3 = i then (1 : EReal) else 0 := by
  rw [V_sel]
  show Ideal.ofBits .f32 (lit0 (S8x128.rowMajor (ix2 i l))) = _
  rw [sel_word]
  split
  · exact one_word
  · exact zero_word

/-- The pooling weight element by element: a group's weight where both lanes are in the group, else zero. -/
theorem pool_at (W : FVec Ideal S4x4x64x64 .f32) (k l : Fin 256) :
    BLOCKS W (ix3 0 k l) = if (k / 64 : ℕ) = l / 64 then W (ix4 0 ⟨l / 64, by omega⟩ ⟨k % 64, by omega⟩ ⟨l % 64, by omega⟩) else (0 : EReal) := by
  pointwise [BLOCKS]
  have hw : IntOp.cmpi CmpIPredicate.eq (IntOp.addi (BitVec.ofNat 32 (k / 64)) 0#32) (BitVec.ofNat 32 (l / 64))
      = BitVec.ofBool (decide ((k / 64 : ℕ) = l / 64)) := by
    have h : ∀ a b : Fin 4, IntOp.cmpi CmpIPredicate.eq (IntOp.addi (BitVec.ofNat 32 a) 0#32) (BitVec.ofNat 32 b)
      = BitVec.ofBool (decide ((a : ℕ) = b)) := by decide
    exact h ⟨k / 64, by omega⟩ ⟨l / 64, by omega⟩
  rw [hw, uitofp_bool]
  by_cases h : (k / 64 : ℕ) = l / 64
  · rw [if_pos h, if_pos h, mul_one]
    exact congrArg (fun x => W (ix4 0 x _ _)) (Fin.ext h)
  · rw [if_neg h, if_neg h, mul_zero]

/-- The rows stand in one array. -/
theorem V_x (c : Dev nD) : V m c main_v0 = shapeCast S65536x1024 (m ((c : Thread nD τ).loc main_arg0)) shapeCasts_S32x2048x1024_S65536x1024 := by
  entry_read
  rfl

/-- The scales of the norm. -/
theorem V_g (c : Dev nD) : V m c main_v1 = shapeCast S4x1x1024 (m ((c : Thread nD τ).loc main_arg1)) shapeCasts_S4x1024_S4x1x1024 := by
  entry_read
  rfl

/-- The scales of the pooling. -/
theorem V_scale (c : Dev nD) : V m c main_v27 = shapeCast S4x1x256 (m ((c : Thread nD τ).loc main_arg5)) shapeCasts_S4x256_S4x1x256 := by
  entry_read
  rfl

/-- Where a row of the one array comes from. -/
theorem rows_at (X : FVec Ideal S32x2048x1024 .f32) (n : Fin 65536) (k : Fin 1024) :
    shapeCast S65536x1024 X shapeCasts_S32x2048x1024_S65536x1024 (ix2 n k) = X (ix3 ⟨n / 2048, by omega⟩ ⟨n % 2048, by omega⟩ k) := by
  pointwise []

/-- A scale of the norm, -/
theorem g_row (G : FVec Ideal S4x1024 .f32) (k : Fin 1024) :
    shapeCast S4x1x1024 G shapeCasts_S4x1024_S4x1x1024 (ix3 0 0 k) = G (ix2 0 k) := by
  pointwise []

/-- and of the pooling. -/
theorem scale_row (G : FVec Ideal S4x256 .f32) (k : Fin 256) :
    shapeCast S4x1x256 G shapeCasts_S4x256_S4x1x256 (ix3 0 0 k) = G (ix2 0 k) := by
  pointwise []

/-- Point `t` reads rows `512 t` and on, -/
theorem x_block (c : Dev nD) (t : Fin cfg0.N) (r : Fin 512) (k : Fin 1024) : iblk m c 0 t (ix2 r k)
    = V m c main_v0 (ix2 ⟨t.val * 512 + r, by have : t.val < 128 := t.isLt; omega⟩ k) := by
  blk_point [iblk, idx t]

/-- of the sequence and position they stand at. -/
theorem x_at (c : Dev nD) (t : Fin cfg0.N) (r : Fin 512) (k : Fin 1024) : iblk m c 0 t (ix2 r k)
    = m ((c : Thread nD τ).loc main_arg0) (ix3 ⟨t.val / 4, by have : t.val < 128 := t.isLt; omega⟩ ⟨t.val % 4 * 512 + r, by omega⟩ k) := by
  rw [x_block, V_x, rows_at]
  exact congrArg₂ (fun a b => m ((c : Thread nD τ).loc main_arg0) (ix3 a b k)) (Fin.ext (by show (t.val * 512 + r.val) / 2048 = t.val / 4; omega))
    (Fin.ext (by show (t.val * 512 + r.val) % 2048 = t.val % 4 * 512 + r; omega))

/-- Every point reads all the scales of the norm, -/
theorem g_block (c : Dev nD) (t : Fin cfg0.N) (k : Fin 1024) : iblk m c 1 t (ix3 0 0 k) = V m c main_v1 (ix3 0 0 k) := by
  blk_point [iblk, idx t]

/-- as the argument has them, -/
theorem g_at (c : Dev nD) (t : Fin cfg0.N) (k : Fin 1024) : iblk m c 1 t (ix3 0 0 k) = m ((c : Thread nD τ).loc main_arg1) (ix2 0 k) := by
  rw [g_block, V_g, g_row]

/-- all the scales of the pooling, -/
theorem scale_block (c : Dev nD) (t : Fin cfg0.N) (l : Fin 256) : iblk m c 6 t (ix3 0 0 l) = V m c main_v27 (ix3 0 0 l) := by
  blk_point [iblk, idx t]

/-- as the argument has them, -/
theorem scale_at (c : Dev nD) (t : Fin cfg0.N) (l : Fin 256) : iblk m c 6 t (ix3 0 0 l) = m ((c : Thread nD τ).loc main_arg5) (ix2 0 l) := by
  rw [scale_block, V_scale, scale_row]

/-- the taps of the convolution, -/
theorem conv_w_at (c : Dev nD) (t : Fin cfg0.N) (i : Fin 3) (l : Fin 256) : iblk m c 7 t (ix3 0 i l) = m ((c : Thread nD τ).loc main_arg6) (ix3 0 i l) := by
  blk_point [iblk, V, idx t]

/-- the widened weight, -/
theorem weight_block (c : Dev nD) (t : Fin cfg0.N) (k : Fin 1024) (l : Fin 2688) :
    iblk m c 2 t (ix3 0 k l) = WIDE (m ((c : Thread nD τ).loc main_arg2)) (ix3 0 k l) := by
  rw [← V_wide m c]
  blk_point [iblk, idx t]

/-- the biases, -/
theorem bias_block (c : Dev nD) (t : Fin cfg0.N) (l : Fin 128) :
    iblk m c 3 t (ix3 0 0 l) = BIAS (m ((c : Thread nD τ).loc main_arg3)) (ix3 0 0 l) := by
  rw [← V_bias m c]
  blk_point [iblk, idx t]

/-- the selectors, -/
theorem sel_block (c : Dev nD) (t : Fin cfg0.N) (i : Fin 8) (l : Fin 128) :
    iblk m c 4 t (ix2 i l) = V m c main_cst (ix2 i l) := by
  blk_point [iblk, idx t]

/-- and the pooling weight. -/
theorem pool_block (c : Dev nD) (t : Fin cfg0.N) (k l : Fin 256) :
    iblk m c 5 t (ix3 0 k l) = BLOCKS (m ((c : Thread nD τ).loc main_arg4)) (ix3 0 k l) := by
  rw [← V_pool m c]
  blk_point [iblk, idx t]

/-- The projection of a block of rows, at one row and lane: the row's norm through the weight. -/
theorem pay7_at (x : FVec Ideal S512x1024 .f32) (g : FVec Ideal S1x1x1024 .f32) (w : FVec Ideal S1x1024x2688 .bf16) (r : Fin 512) (l : Fin 2688) :
    k0_pay7 (F := Ideal) x g w (ix2 r l) = ∑ k : Fin 1024,
      x (ix2 r k) * Ideal.rsqrt (Ideal.div (∑ k : Fin 1024, x (ix2 r k) * x (ix2 r k)) (Ideal.ofBits .f32 0x44800000#32) + Ideal.ofBits .f32 0x358637BD#32)
        * g (ix3 0 0 k) * w (ix3 0 k l) := by
  pointwise [k0_pay7]

end Cert.MixInIdeal.Value
-- ==== Proof.MixInState.lean ====
/-
  What every grid point of the layer's input leaves: its block's rows of the projection, and the three carries a point
  hands to the next, which are the sums of the forget gates, the last rows before the pooling and the last rows before the
  convolution.
-/
module

public import proofs.«01_k».proof.Proof.Gen.MixInIdeal.Frame
public import proofs.«01_k».proof.Proof.MixInBlocks
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixInIdeal.Value

open Cert.MixInIdeal Cert.MixInIdeal.Gen

/-- Row `s` of sequence `b`, normed, through column `l` of the widened weight. -/
def PK (X : FVec Ideal S32x2048x1024 .f32) (G : FVec Ideal S4x1024 .f32) (W : FVec Ideal S4x1024x2568 .f32) (b : Fin 32) (s : ℕ) (l : Fin 2688) : EReal :=
  ∑ k : Fin 1024, X (ix3 b ⟨s % 2048, by omega⟩ k)
    * Ideal.rsqrt (Ideal.div (∑ k : Fin 1024, X (ix3 b ⟨s % 2048, by omega⟩ k) * X (ix3 b ⟨s % 2048, by omega⟩ k)) (Ideal.ofBits .f32 0x44800000#32) + Ideal.ofBits .f32 0x358637BD#32)
    * G (ix2 0 k) * WIDE W (ix3 0 k l)

/-- The log-sigmoid of its forget gate in lane `l`, -/
def LF (X : FVec Ideal S32x2048x1024 .f32) (G : FVec Ideal S4x1024 .f32) (W : FVec Ideal S4x1024x2568 .f32) (B : FVec Ideal S4x8 .f32) (b : Fin 32) (s : ℕ) (l : Fin 128) : EReal :=
  lsig (PK X G W b s ⟨1536 + l, by omega⟩ + BIAS B (ix3 0 0 l))

/-- its lane before the pooling, behind sixteen rows of zeros, -/
def UU (X : FVec Ideal S32x2048x1024 .f32) (G : FVec Ideal S4x1024 .f32) (W : FVec Ideal S4x1024x2568 .f32) (b : Fin 32) (l : Fin 256) (n : ℕ) : EReal :=
  if n < 16 then 0 else PK X G W b (n - 16) ⟨1664 + l, by omega⟩

/-- and its lane before the convolution, behind eight rows of zeros. -/
def CC (X : FVec Ideal S32x2048x1024 .f32) (G : FVec Ideal S4x1024 .f32) (W : FVec Ideal S4x1024x2568 .f32) (b : Fin 32) (l : Fin 256) (n : ℕ) : EReal :=
  if n < 8 then 0 else PK X G W b (n - 8) ⟨2176 + l, by omega⟩ * PK X G W b (n - 8) ⟨2432 + l, by omega⟩

/-- A block of gate lanes, as it is stored, -/
def gateTile (x : FVec Ideal S512x1024 .f32) (g : FVec Ideal S1x1x1024 .f32) (w : FVec Ideal S1x1024x2688 .bf16) (b : FVec Ideal S1x1x128 .f32)
    (z : FVec Ideal S8x128 .f32) (d : FVec Ideal S1x128 .f32) : FVec Ideal S512x128 .bf16 :=
  k0_pay19 (F := Ideal)
    (k0_pay15 (iota Kind.tc S512x128 32 [0] iota_S512x128_d0_w32) (k0_pay11 (k0_pay10 x g w) b) d)
    (k0_pay17 (iota Kind.tc S512x128 32 [0] iota_S512x128_d0_w32) (k0_pay11 (k0_pay10 x g w) b) d)
    (k0_pay18 (iota Kind.tc S512x128 32 [0] iota_S512x128_d0_w32) (k0_pay11 (k0_pay10 x g w) b) d)
    (View.ld (Val := Elt Ideal) (e' := .f32) z (Rect.unit (s := S8x128) ![0, 0] ![1, 128] inb_S8x128_S1x128_0_0))
    (View.ld (Val := Elt Ideal) (e' := .f32) z (Rect.unit (s := S8x128) ![1, 0] ![1, 128] inb_S8x128_S1x128_1_0))
    (View.ld (Val := Elt Ideal) (e' := .f32) z (Rect.unit (s := S8x128) ![2, 0] ![1, 128] inb_S8x128_S1x128_2_0))

/-- a block of keys beside it, -/
def kxTile (p : FVec Ideal S512x2688 .f32) (e : FVec Ideal S512x128 .bf16) : FVec Ideal S512x1024 .bf16 :=
  View.canon (Val := Elt Ideal) (s := S512x1024) (e := .bf16)
      [⟨Rect.unit ![0, 896] ![512, 128] inb_S512x1024_S512x128_0_896, e⟩,
       ⟨Rect.unit ![0, 768] ![512, 128] inb_S512x1024_S512x128_0_768, k0_pay23 (F := Ideal) p⟩,
       ⟨Rect.unit ![0, 640] ![512, 128] inb_S512x1024_S512x128_0_640, e⟩,
       ⟨Rect.unit ![0, 512] ![512, 128] inb_S512x1024_S512x128_0_512, k0_pay22 (F := Ideal) p⟩,
       ⟨Rect.unit ![0, 384] ![512, 128] inb_S512x1024_S512x128_0_384, e⟩,
       ⟨Rect.unit ![0, 256] ![512, 128] inb_S512x1024_S512x128_0_256, k0_pay21 (F := Ideal) p⟩,
       ⟨Rect.unit ![0, 128] ![512, 128] inb_S512x1024_S512x128_0_128, e⟩,
       ⟨Rect.unit ![0, 0] ![512, 128] inb_S512x1024_S512x128_0_0, k0_pay20 (F := Ideal) p⟩]

/-- and a block of the pooled lanes beside the convolved ones. -/
def yTile (p : FVec Ideal S512x2688 .f32) (P : FVec Ideal S1x256x256 .bf16)
    (q : FVec Ideal S1x1x256 .f32) (v : FVec Ideal S1x3x256 .f32) (n : ℕ) (u : FVec Ideal S16x256 .f32) (k : FVec Ideal S8x256 .f32) : FVec Ideal S512x512 .bf16 :=
  View.canon (Val := Elt Ideal) (s := S512x512) (e := .bf16)
      [⟨Rect.unit ![0, 256] ![512, 256] inb_S512x512_S512x256_0_256,
          k0_pay3 (F := Ideal) p (k0_pay31 (F := Ideal) p k)
            (k0_pay32 (F := Ideal) p k
              (View.ld (Val := Elt Ideal) (e' := .f32) v (Rect.unit (s := S1x3x256) ![0, 2, 0] ![1, 1, 256] inb_S1x3x256_S1x1x256_0_2_0))
              (View.ld (Val := Elt Ideal) (e' := .f32) v (Rect.unit (s := S1x3x256) ![0, 1, 0] ![1, 1, 256] inb_S1x3x256_S1x1x256_0_1_0)))
            (k0_pay33 (F := Ideal) (View.ld (Val := Elt Ideal) (e' := .f32) v (Rect.unit (s := S1x3x256) ![0, 0, 0] ![1, 1, 256] inb_S1x3x256_S1x1x256_0_0_0)))⟩,
        ⟨Rect.unit ![0, 0] ![512, 256] inb_S512x512_S512x256_0_0,
          k0_pay2 (F := Ideal)
            (k0_pay28 (F := Ideal) (k0_pay24 (F := Ideal) p) (k0_pay26 (F := Ideal) p u) k0_pay27
              (Scalar.muli (Scalar.remsi (BitVec.ofNat 32 n) 4#32) 512#32)
              (iota Kind.tc S512x256 32 [0] iota_S512x256_d0_w32) P q)⟩]

variable (m : (ℓ : Loc nD τ sig) → Buf (Elt Ideal) ℓ)

/-- What point `t` leaves, of the carries `d`, `u`, `k` it came with. -/
structure Leaves (c : Dev nD) (t : Fin cfg0.N) (d : FVec Ideal S1x128 .f32) (u : FVec Ideal S16x256 .f32) (k : FVec Ideal S8x256 .f32) : Prop where
  q : (outsAt0 m c t.val t.isLt).1 = k0_pay8 (iblk m c 0 t) (iblk m c 1 t) (iblk m c 2 t)
  kx : (outsAt0 m c t.val t.isLt).2.1 = kxTile (k0_pay7 (iblk m c 0 t) (iblk m c 1 t) (iblk m c 2 t)) (gateTile (iblk m c 0 t) (iblk m c 1 t) (iblk m c 2 t) (iblk m c 3 t) (iblk m c 4 t) d)
  v : (outsAt0 m c t.val t.isLt).2.2.1 = k0_pay9 (iblk m c 0 t) (iblk m c 1 t) (iblk m c 2 t)
  y : (outsAt0 m c t.val t.isLt).2.2.2.1 = yTile (k0_pay7 (iblk m c 0 t) (iblk m c 1 t) (iblk m c 2 t)) (iblk m c 5 t) (iblk m c 6 t) (iblk m c 7 t) (grid0.coords t 0) u k
  d : (outsAt0 m c t.val t.isLt).2.2.2.2.1 = k0_pay13 (iota Kind.tc S512x128 32 [0] iota_S512x128_d0_w32)
      (k0_pay11 (k0_pay10 (iblk m c 0 t) (iblk m c 1 t) (iblk m c 2 t)) (iblk m c 3 t)) d
  u : (outsAt0 m c t.val t.isLt).2.2.2.2.2.1 = k0_pay29 (k0_pay24 (k0_pay7 (iblk m c 0 t) (iblk m c 1 t) (iblk m c 2 t)))
  k : (outsAt0 m c t.val t.isLt).2.2.2.2.2.2 = k0_pay1 (k0_pay30 (k0_pay7 (iblk m c 0 t) (iblk m c 1 t) (iblk m c 2 t)))

/-- A sequence's first point starts from zeros. -/
theorem leaves_A (c : Dev nD) (t : Fin cfg0.N) (h : t.val % 4 = 0) :
    Leaves m c t (View.readCov (Val := Elt Ideal) (View.whole cc0_scratch0 : View sig .tc .vmem S8x128 .f32) [⟨Rect.unit (s := S8x128) ![0, 0] ![8, 128] inb_S8x128_S8x128_0_0, k0_pay4 (F := Ideal)⟩]
        (Rect.unit (s := S8x128) ![0, 0] ![1, 128] inb_S8x128_S1x128_0_0).toLoadRect) k0_pay5 k0_pay6 := by
  constructor <;> rw [outsAt0_A m c t h] <;> dsimp only
  · unfold out0_A_8; frame_out
  · unfold out0_A_9; frame_out; rfl
  · unfold out0_A_10; frame_out
  · unfold out0_A_11; frame_out
  · unfold sout0_A_0; frame_out
  · unfold sout0_A_1; frame_out
  · unfold sout0_A_2; frame_out

/-- Any other starts from what the point before left. -/
theorem leaves_B (c : Dev nD) (t : Fin cfg0.N) (h : ¬ t.val % 4 = 0) :
    Leaves m c t (View.ld (Val := Elt Ideal) (e' := .f32) ((outsAt0 m c (t.val - 1) (Nat.lt_of_le_of_lt (Nat.sub_le _ _) t.isLt)).2.2.2.2.1) (Rect.unit (s := S8x128) ![0, 0] ![1, 128] inb_S8x128_S1x128_0_0))
      ((outsAt0 m c (t.val - 1) (Nat.lt_of_le_of_lt (Nat.sub_le _ _) t.isLt)).2.2.2.2.2.1)
      ((outsAt0 m c (t.val - 1) (Nat.lt_of_le_of_lt (Nat.sub_le _ _) t.isLt)).2.2.2.2.2.2) := by
  constructor <;> rw [outsAt0_B m c t h] <;> dsimp only
  · unfold out0_B_8; frame_out
  · unfold out0_B_9; frame_out; simp only [read_unread_whole]; rfl
  · unfold out0_B_10; frame_out
  · unfold out0_B_11; frame_out; simp only [read_unread_whole]
  · unfold sout0_B_0; frame_out; simp only [read_unread_whole]
  · unfold sout0_B_1; frame_out
  · unfold sout0_B_2; frame_out

/-- Row `r` of point `t`'s block of the projection. -/
theorem proj_at (c : Dev nD) (t : Fin cfg0.N) (r : Fin 512) (l : Fin 2688) :
    k0_pay7 (F := Ideal) (iblk m c 0 t) (iblk m c 1 t) (iblk m c 2 t) (ix2 r l)
      = PK (m ((c : Thread nD τ).loc main_arg0)) (m ((c : Thread nD τ).loc main_arg1)) (m ((c : Thread nD τ).loc main_arg2))
          ⟨t.val / 4, by have : t.val < 128 := t.isLt; omega⟩ (512 * (t.val % 4) + r) l := by
  rw [pay7_at]
  have hs : (⟨t.val % 4 * 512 + r, by omega⟩ : Fin 2048) = ⟨(512 * (t.val % 4) + r) % 2048, by omega⟩ := Fin.ext (by show t.val % 4 * 512 + r.val = (512 * (t.val % 4) + r.val) % 2048; omega)
  unfold PK
  simp only [x_at, g_at, weight_block, hs]

/-- Point `t`'s sequence. -/
def bt (t : Fin cfg0.N) : Fin 32 := ⟨t.val / 4, by have : t.val < 128 := t.isLt; omega⟩

/-- The carries a point comes with: the gates' sum over the rows before it, and the rows before it. -/
structure Comes (c : Dev nD) (t : Fin cfg0.N) (d : FVec Ideal S1x128 .f32) (u : FVec Ideal S16x256 .f32) (k : FVec Ideal S8x256 .f32) : Prop where
  d : ∀ l : Fin 128, d (ix2 0 l) = ∑ i ∈ Finset.range (512 * (t.val % 4)), LF (m ((c : Thread nD τ).loc main_arg0)) (m ((c : Thread nD τ).loc main_arg1)) (m ((c : Thread nD τ).loc main_arg2)) (m ((c : Thread nD τ).loc main_arg3)) (bt t) i l
  u : ∀ (i : Fin 16) (l : Fin 256), u (ix2 i l) = UU (m ((c : Thread nD τ).loc main_arg0)) (m ((c : Thread nD τ).loc main_arg1)) (m ((c : Thread nD τ).loc main_arg2)) (bt t) l (512 * (t.val % 4) + i)
  k : ∀ (i : Fin 8) (l : Fin 256), k (ix2 i l) = CC (m ((c : Thread nD τ).loc main_arg0)) (m ((c : Thread nD τ).loc main_arg1)) (m ((c : Thread nD τ).loc main_arg2)) (bt t) l (512 * (t.val % 4) + i)

/-- The gate lanes of a block. -/
theorem pay10_at (x : FVec Ideal S512x1024 .f32) (g : FVec Ideal S1x1x1024 .f32) (w : FVec Ideal S1x1024x2688 .bf16) (r : Fin 512) (l : Fin 128) :
    k0_pay10 (F := Ideal) x g w (ix2 r l) = k0_pay7 (F := Ideal) x g w (ix2 r ⟨1536 + l, by omega⟩) := by
  unfold k0_pay10
  generalize k0_pay7 (F := Ideal) x g w = p
  pointwise []

/-- The row of cumulated gates a block hands on. -/
theorem pay13_at (i : IVec S512x128 32) (p : FVec Ideal S512x128 .f32) (d : Vec Ideal S1x128 .f32) (r : Fin 8) (l : Fin 128) :
    k0_pay13 (F := Ideal) i p d (ix2 r l) = k0_pay12 (F := Ideal) i p d (ix2 511 l) := by
  unfold k0_pay13
  generalize k0_pay12 (F := Ideal) i p d = q
  pointwise []

/-- The rows a block hands on to the next one's pooling, -/
theorem pay29_at (p : FVec Ideal S512x2688 .f32) (i : Fin 16) (l : Fin 256) :
    k0_pay29 (F := Ideal) (k0_pay24 (F := Ideal) p) (ix2 i l) = p (ix2 ⟨496 + i, by omega⟩ ⟨1664 + l, by omega⟩) := by
  pointwise [k0_pay29, k0_pay24]

/-- and to its convolution. -/
theorem pay1_at (p : FVec Ideal S512x2688 .f32) (i : Fin 8) (l : Fin 256) :
    k0_pay1 (F := Ideal) (k0_pay30 (F := Ideal) p) (ix2 i l)
      = p (ix2 ⟨504 + i, by omega⟩ ⟨2176 + l, by omega⟩) * p (ix2 ⟨504 + i, by omega⟩ ⟨2432 + l, by omega⟩) := by
  pointwise [k0_pay1, k0_pay30]

/-- The cumulated gate of row `r` of point `t`'s block. -/
theorem gate_at (c : Dev nD) (t : Fin cfg0.N) (d : FVec Ideal S1x128 .f32) (u : FVec Ideal S16x256 .f32) (k : FVec Ideal S8x256 .f32)
    (h : Comes m c t d u k) (r : Fin 512) (l : Fin 128) :
    k0_pay12 (F := Ideal) (iota Kind.tc S512x128 32 [0] iota_S512x128_d0_w32) (k0_pay11 (k0_pay10 (iblk m c 0 t) (iblk m c 1 t) (iblk m c 2 t)) (iblk m c 3 t)) d (ix2 r l)
      = ∑ i ∈ Finset.range (512 * (t.val % 4) + (r + 1)), LF (m ((c : Thread nD τ).loc main_arg0)) (m ((c : Thread nD τ).loc main_arg1)) (m ((c : Thread nD τ).loc main_arg2)) (m ((c : Thread nD τ).loc main_arg3)) (bt t) i l := by
  rw [scan _ _ d l (fun i => LF (m ((c : Thread nD τ).loc main_arg0)) (m ((c : Thread nD τ).loc main_arg1)) (m ((c : Thread nD τ).loc main_arg2)) (m ((c : Thread nD τ).loc main_arg3)) (bt t) (512 * (t.val % 4) + i) l) ?_ r]
  · rw [h.d l, add_comm]
    exact (Finset.sum_range_add _ _ _).symm
  · intro r
    rw [pay10_at, proj_at, bias_block]
    rfl

/-- A row of a cleared buffer is zero. -/
theorem zero_row (V : View sig .tc .vmem S8x128 .f32) (l : Fin 128) :
    View.readCov (Val := Elt Ideal) V [⟨Rect.unit (s := S8x128) ![0, 0] ![8, 128] inb_S8x128_S8x128_0_0, k0_pay4 (F := Ideal)⟩]
        (Rect.unit (s := S8x128) ![0, 0] ![1, 128] inb_S8x128_S1x128_0_0).toLoadRect (ix2 0 l) = 0 := by
  rw [View.readCov_eq_canon']
  canon_tiles x h
  refine (congrArg _ (eq_ix2 x)).trans ?_
  refine Eq.trans ?_ zero_word
  pointwise [k0_pay4]

/-- At the first block of a sequence the cleared buffers hold what the block takes over. -/
theorem comes_A (c : Dev nD) (t : Fin cfg0.N) (h : t.val % 4 = 0) (d : FVec Ideal S1x128 .f32) (hd : ∀ l, d (ix2 0 l) = 0) :
    Comes m c t d k0_pay5 k0_pay6 := by
  constructor
  · intro l
    rw [h, hd]
    rfl
  · intro i l
    rw [h]
    unfold UU
    rw [if_pos (by omega)]
    refine Eq.trans ?_ zero_word
    pointwise [k0_pay5]
  · intro i l
    rw [h]
    unfold CC
    rw [if_pos (by omega)]
    refine Eq.trans ?_ zero_word
    pointwise [k0_pay6]

/-- What one point leaves is what the next comes with. -/
theorem comes_B (c : Dev nD) (t p : Fin cfg0.N) (hp : p.val + 1 = t.val) (h : ¬ t.val % 4 = 0) (d : FVec Ideal S1x128 .f32) (u : FVec Ideal S16x256 .f32)
    (k : FVec Ideal S8x256 .f32) (hl : Leaves m c p d u k) (hc : Comes m c p d u k) :
    Comes m c t (View.ld (Val := Elt Ideal) (e' := .f32) ((outsAt0 m c p.val p.isLt).2.2.2.2.1) (Rect.unit (s := S8x128) ![0, 0] ![1, 128] inb_S8x128_S1x128_0_0))
      ((outsAt0 m c p.val p.isLt).2.2.2.2.2.1) ((outsAt0 m c p.val p.isLt).2.2.2.2.2.2) := by
  have hb : bt p = bt t := Fin.ext (by show p.val / 4 = t.val / 4; omega)
  have hm : 512 * (t.val % 4) = 512 * (p.val % 4) + 512 := by omega
  constructor
  · intro l
    rw [hl.d]
    have e : ∀ q : FVec Ideal S8x128 .f32, View.ld (Val := Elt Ideal) (e' := .f32) q (Rect.unit (s := S8x128) ![0, 0] ![1, 128] inb_S8x128_S1x128_0_0) (ix2 0 l) = q (ix2 0 l) := by
      intro q
      refine congrArg q ?_
      funext a; fin_cases a <;> exact Fin.ext (by simp)
    rw [e, pay13_at, gate_at m c p d u k hc, hb, hm]
    rfl
  · intro i l
    rw [hl.u, pay29_at, proj_at]
    unfold UU
    rw [if_neg (by omega), hm]
    refine congrArg₂ (fun b s => PK _ _ _ b s _) hb ?_
    show 512 * (p.val % 4) + (496 + i.val) = _
    omega
  · intro i l
    rw [hl.k, pay1_at, proj_at, proj_at]
    unfold CC
    rw [if_neg (by omega), hm]
    have hs : 512 * (p.val % 4) + (504 + i.val) = 512 * (p.val % 4) + 512 + i - 8 := by omega
    refine congrArg₂ (fun b s => PK _ _ _ b s _ * PK _ _ _ b s _) hb ?_
    exact hs

/-- So every point comes with these carries. -/
theorem state (c : Dev nD) : ∀ (n : ℕ) (hn : n < cfg0.N), ∃ d u k, Leaves m c ⟨n, hn⟩ d u k ∧ Comes m c ⟨n, hn⟩ d u k := by
  intro n
  induction n with
  | zero => exact fun hn => ⟨_, _, _, leaves_A m c ⟨0, hn⟩ rfl, comes_A m c _ rfl _ (zero_row _)⟩
  | succ n ih =>
    intro hn
    by_cases h : (n + 1) % 4 = 0
    · exact ⟨_, _, _, leaves_A m c ⟨n + 1, hn⟩ h, comes_A m c _ h _ (zero_row _)⟩
    · obtain ⟨d, u, k, hl, hc⟩ := ih (by omega)
      exact ⟨_, _, _, leaves_B m c ⟨n + 1, hn⟩ h, comes_B m c ⟨n + 1, hn⟩ ⟨n, by omega⟩ rfl h d u k hl hc⟩

end Cert.MixInIdeal.Value
-- ==== Proof.MixInValue.lean ====
/-
  The results of the layer's input, of its seven arguments: the queries, the keys beside their gate lanes, the values, and
  the pooled lanes beside the convolved ones.
-/
module

public import proofs.«01_k».proof.Proof.MixInState
public import Idealize.ShloMosaic.Lib.WordArith
public import proofs.«01_k».proof.Proof.Gen.MixInIdeal.Value

@[expose] public section

set_option maxRecDepth 16384

noncomputable section

open Idealize.ShloMosaic Idealize.ShloMosaic.TcCoe Idealize.SL.Sem
open Idealize.ShloMosaic.Pipeline (Dat)

namespace Cert.MixInIdeal.Value

open Cert.MixInIdeal Cert.MixInIdeal.Gen

/-- The sequence of a row, -/
def seqOf (n : Fin 65536) : Fin 32 := ⟨n / 2048, by omega⟩

/-- The queries at an index, -/
def FQ (X : FVec Ideal S32x2048x1024 .f32) (G : FVec Ideal S4x1024 .f32) (W : FVec Ideal S4x1024x2568 .f32) (n : Fin 65536) (l : Fin 512) : EReal :=
  PK X G W (seqOf n) (n % 2048) ⟨l, by omega⟩ * Ideal.ofBits .f32 0x3E38AA3B#32

/-- the values, -/
def FV (X : FVec Ideal S32x2048x1024 .f32) (G : FVec Ideal S4x1024 .f32) (W : FVec Ideal S4x1024x2568 .f32) (n : Fin 65536) (l : Fin 512) : EReal :=
  PK X G W (seqOf n) (n % 2048) ⟨1024 + l, by omega⟩

/-- the cumulated gates, -/
def DD (X : FVec Ideal S32x2048x1024 .f32) (G : FVec Ideal S4x1024 .f32) (W : FVec Ideal S4x1024x2568 .f32) (B : FVec Ideal S4x8 .f32) (b : Fin 32) (s : ℕ) (l : Fin 128) : EReal :=
  ∑ i ∈ Finset.range (s + 1), LF X G W B b i l

/-- the keys beside the gate lanes, -/
def FX (X : FVec Ideal S32x2048x1024 .f32) (G : FVec Ideal S4x1024 .f32) (W : FVec Ideal S4x1024x2568 .f32) (B : FVec Ideal S4x8 .f32) (n : Fin 65536) (l : Fin 1024) : EReal :=
  if (l : ℕ) / 128 % 2 = 0 then PK X G W (seqOf n) (n % 2048) ⟨512 + (l / 256 * 128 + l % 128), by omega⟩
  else if (l : ℕ) % 128 < 24 ∧ (l : ℕ) % 128 % 3 = 0 then -(DD X G W B (seqOf n) (n % 2048) ⟨l % 128, by omega⟩ * Ideal.ofBits .f32 0x3FB8AA3B#32)
  else 0

/-- the pooled lanes: a window's mean less the row, through the group's weight, scaled, -/
def FP (X : FVec Ideal S32x2048x1024 .f32) (G : FVec Ideal S4x1024 .f32) (W : FVec Ideal S4x1024x2568 .f32) (P : FVec Ideal S4x4x64x64 .f32) (Q : FVec Ideal S4x256 .f32) (n : Fin 65536) (l : Fin 256) : EReal :=
  (∑ k : Fin 256, (Ideal.div (win (UU X G W (seqOf n) k) (wsize k) (16 + n % 2048)) ((min (n % 2048 + 1) (wsize k) : ℕ) : ℝ)
    - PK X G W (seqOf n) (n % 2048) ⟨1664 + k, by omega⟩) * BLOCKS P (ix3 0 k l)) * Q (ix2 0 l)

/-- and the convolved ones. -/
def FC (X : FVec Ideal S32x2048x1024 .f32) (G : FVec Ideal S4x1024 .f32) (W : FVec Ideal S4x1024x2568 .f32) (V : FVec Ideal S4x3x256 .f32) (n : Fin 65536) (l : Fin 256) : EReal :=
  PK X G W (seqOf n) (n % 2048) ⟨1920 + l, by omega⟩ * ((V (ix3 0 2 l) * CC X G W (seqOf n) l (8 + n % 2048) + V (ix3 0 1 l) * CC X G W (seqOf n) l (7 + n % 2048))
    + V (ix3 0 0 l) * CC X G W (seqOf n) l (6 + n % 2048))

/-- The pooled lanes beside the convolved ones. -/
def FY (X : FVec Ideal S32x2048x1024 .f32) (G : FVec Ideal S4x1024 .f32) (W : FVec Ideal S4x1024x2568 .f32) (P : FVec Ideal S4x4x64x64 .f32) (Q : FVec Ideal S4x256 .f32)
    (V : FVec Ideal S4x3x256 .f32) (n : Fin 65536) (l : Fin 512) : EReal :=
  if h : (l : ℕ) < 256 then FP X G W P Q n ⟨l, h⟩ else FC X G W V n ⟨l - 256, by omega⟩

variable (m : (ℓ : Loc nD τ sig) → Buf (Elt Ideal) ℓ)

/-- The row of the arrays that is row `r` of point `t`'s block. -/
def rowOf (t : Fin cfg0.N) (r : Fin 512) : Fin 65536 := ⟨t.val * 512 + r, by have : t.val < 128 := t.isLt; omega⟩

/-- The sequence of a row of point `t`, -/
theorem seq_row (t : Fin cfg0.N) (r : Fin 512) : seqOf (rowOf t r) = bt t := Fin.ext (by show (t.val * 512 + r.val) / 2048 = t.val / 4; omega)
/-- and its position there. -/
theorem pos_row (t : Fin cfg0.N) (r : Fin 512) : (rowOf t r : ℕ) % 2048 = 512 * (t.val % 4) + r := by show (t.val * 512 + r.val) % 2048 = _; omega

/-- The queries of a block, -/
theorem pay8_at (x : FVec Ideal S512x1024 .f32) (g : FVec Ideal S1x1x1024 .f32) (w : FVec Ideal S1x1024x2688 .bf16) (r : Fin 512) (l : Fin 512) :
    k0_pay8 (F := Ideal) x g w (ix2 r l) = k0_pay7 (F := Ideal) x g w (ix2 r ⟨l, by omega⟩) * Ideal.ofBits .f32 0x3E38AA3B#32 := by
  unfold k0_pay8
  generalize k0_pay7 (F := Ideal) x g w = p
  pointwise []

/-- and its values. -/
theorem pay9_at (x : FVec Ideal S512x1024 .f32) (g : FVec Ideal S1x1x1024 .f32) (w : FVec Ideal S1x1024x2688 .bf16) (r : Fin 512) (l : Fin 512) :
    k0_pay9 (F := Ideal) x g w (ix2 r l) = k0_pay7 (F := Ideal) x g w (ix2 r ⟨1024 + l, by omega⟩) := by
  unfold k0_pay9
  generalize k0_pay7 (F := Ideal) x g w = p
  pointwise []

/-- Point `t` stores the queries of its rows, -/
theorem q_core (c : Dev nD) (t : Fin cfg0.N) (r l : Fin 512) : (outsAt0 m c t.val t.isLt).1 (ix2 r l)
    = FQ (m ((c : Thread nD τ).loc main_arg0)) (m ((c : Thread nD τ).loc main_arg1)) (m ((c : Thread nD τ).loc main_arg2)) (rowOf t r) l := by
  obtain ⟨d, u, k, hl, hc⟩ := state m c t.val t.isLt
  rw [hl.q, pay8_at, proj_at]
  unfold FQ
  rw [seq_row, pos_row]
  rfl

/-- and their values. -/
theorem v_core (c : Dev nD) (t : Fin cfg0.N) (r l : Fin 512) : (outsAt0 m c t.val t.isLt).2.2.1 (ix2 r l)
    = FV (m ((c : Thread nD τ).loc main_arg0)) (m ((c : Thread nD τ).loc main_arg1)) (m ((c : Thread nD τ).loc main_arg2)) (rowOf t r) l := by
  obtain ⟨d, u, k, hl, hc⟩ := state m c t.val t.isLt
  rw [hl.v, pay9_at, proj_at]
  unfold FV
  rw [seq_row, pos_row]
  rfl

/-- The stored keys, and the stored gate lanes. -/
theorem key20 (p : FVec Ideal S512x2688 .f32) (r : Fin 512) (l : Fin 128) : k0_pay20 (F := Ideal) p (ix2 r l) = p (ix2 r ⟨512 + l, by omega⟩) := by
  pointwise [k0_pay20]
/-- The keys of the second head pair, -/
theorem key21 (p : FVec Ideal S512x2688 .f32) (r : Fin 512) (l : Fin 128) : k0_pay21 (F := Ideal) p (ix2 r l) = p (ix2 r ⟨640 + l, by omega⟩) := by
  pointwise [k0_pay21]
/-- of the third, -/
theorem key22 (p : FVec Ideal S512x2688 .f32) (r : Fin 512) (l : Fin 128) : k0_pay22 (F := Ideal) p (ix2 r l) = p (ix2 r ⟨768 + l, by omega⟩) := by
  pointwise [k0_pay22]
/-- and of the fourth. -/
theorem key23 (p : FVec Ideal S512x2688 .f32) (r : Fin 512) (l : Fin 128) : k0_pay23 (F := Ideal) p (ix2 r l) = p (ix2 r ⟨896 + l, by omega⟩) := by
  pointwise [k0_pay23]

/-- The three parts of a gate in their lanes. -/
theorem pay19_at (h1 h2 h3 : FVec Ideal S512x128 .f32) (s1 s2 s3 : Vec Ideal S1x128 .f32) (r : Fin 512) (l : Fin 128) :
    k0_pay19 (F := Ideal) h1 h2 h3 s1 s2 s3 (ix2 r l)
      = Ideal.ofBits .f32 0#32 - ((h1 (ix2 r l) * s1 (ix2 0 l) + h2 (ix2 r l) * s2 (ix2 0 l)) + h3 (ix2 r l) * s3 (ix2 0 l)) := by
  pointwise [k0_pay19]

/-- A cumulated gate in base two, negated; -/
theorem pay15_at (i : IVec S512x128 32) (p : FVec Ideal S512x128 .f32) (d : Vec Ideal S1x128 .f32) (r : Fin 512) (l : Fin 128) :
    k0_pay15 (F := Ideal) i p d (ix2 r l) = k0_pay12 (F := Ideal) i p d (ix2 r l) * Ideal.ofBits .f32 0x3FB8AA3B#32 := by
  unfold k0_pay15 k0_pay14
  generalize k0_pay12 (F := Ideal) i p d = q
  pointwise []

/-- what is left of it after its first part, -/
theorem pay17_at (i : IVec S512x128 32) (p : FVec Ideal S512x128 .f32) (d : Vec Ideal S1x128 .f32) (r : Fin 512) (l : Fin 128) :
    k0_pay17 (F := Ideal) i p d (ix2 r l) = k0_pay12 (F := Ideal) i p d (ix2 r l) * Ideal.ofBits .f32 0x3FB8AA3B#32
      - k0_pay12 (F := Ideal) i p d (ix2 r l) * Ideal.ofBits .f32 0x3FB8AA3B#32 := by
  unfold k0_pay17 k0_pay16 k0_pay15 k0_pay14
  generalize k0_pay12 (F := Ideal) i p d = q
  pointwise []

/-- and after its second. -/
theorem pay18_at (i : IVec S512x128 32) (p : FVec Ideal S512x128 .f32) (d : Vec Ideal S1x128 .f32) (r : Fin 512) (l : Fin 128) :
    k0_pay18 (F := Ideal) i p d (ix2 r l) = k0_pay17 (F := Ideal) i p d (ix2 r l) - k0_pay17 (F := Ideal) i p d (ix2 r l) := by
  unfold k0_pay18 k0_pay17
  generalize k0_pay16 (F := Ideal) i p d = q
  pointwise []

/-- A row of the selectors. -/
theorem ld_row (z : FVec Ideal S8x128 .f32) (i : Fin 8) (h) (l : Fin 128) :
    View.ld (Val := Elt Ideal) (e' := .f32) z (Rect.unit (s := S8x128) ![i, 0] ![1, 128] h) (ix2 0 l) = z (ix2 i l) := by
  refine congrArg z ?_
  funext a; fin_cases a <;> exact Fin.ext (by simp)

/-- The block, lane by lane. -/
theorem kx_at (p : FVec Ideal S512x2688 .f32) (e : FVec Ideal S512x128 .bf16) (r : Fin 512) (l : Fin 1024) :
    kxTile p e (ix2 r l) = if (l : ℕ) / 128 % 2 = 0 then p (ix2 r ⟨512 + (l / 256 * 128 + l % 128), by omega⟩) else e (ix2 r ⟨l % 128, by omega⟩) := by
  unfold kxTile
  canon_tiles x h
  all_goals
    replace h0 : (r : ℕ) = x 0 := h0
    first
      | replace h1 : (l : ℕ) = _ + (x 1 : ℕ) := h1
      | replace h1 : (l : ℕ) = (x 1 : ℕ) := h1
  all_goals first
    | (refine ((congrArg e (eq_ix2 x)).trans ?_).trans (if_neg (by omega)).symm
       exact congrArg₂ (fun a b => e (ix2 a b)) (Fin.ext h0.symm) (Fin.ext (by show (x 1 : ℕ) = l % 128; omega)))
    | (refine ((congrArg _ (eq_ix2 x)).trans ((key20 _ _ _).trans ?_)).trans (if_pos (by omega)).symm
       exact congrArg₂ (fun a b => p (ix2 a b)) (Fin.ext h0.symm) (Fin.ext (by show 512 + (x 1 : ℕ) = 512 + (l / 256 * 128 + l % 128); omega)))
    | (refine ((congrArg _ (eq_ix2 x)).trans ((key21 _ _ _).trans ?_)).trans (if_pos (by omega)).symm
       exact congrArg₂ (fun a b => p (ix2 a b)) (Fin.ext h0.symm) (Fin.ext (by show 640 + (x 1 : ℕ) = 512 + (l / 256 * 128 + l % 128); omega)))
    | (refine ((congrArg _ (eq_ix2 x)).trans ((key22 _ _ _).trans ?_)).trans (if_pos (by omega)).symm
       exact congrArg₂ (fun a b => p (ix2 a b)) (Fin.ext h0.symm) (Fin.ext (by show 768 + (x 1 : ℕ) = 512 + (l / 256 * 128 + l % 128); omega)))
    | (refine ((congrArg _ (eq_ix2 x)).trans ((key23 _ _ _).trans ?_)).trans (if_pos (by omega)).symm
       exact congrArg₂ (fun a b => p (ix2 a b)) (Fin.ext h0.symm) (Fin.ext (by show 896 + (x 1 : ℕ) = 512 + (l / 256 * 128 + l % 128); omega)))

/-- The block of pooled lanes beside the convolved ones: its first half, -/
theorem y_pool (p : FVec Ideal S512x2688 .f32) (P : FVec Ideal S1x256x256 .bf16)
    (q : FVec Ideal S1x1x256 .f32) (v : FVec Ideal S1x3x256 .f32) (n : ℕ) (u : FVec Ideal S16x256 .f32) (k : FVec Ideal S8x256 .f32) (r l : Fin 512) (hl : (l : ℕ) < 256) :
    yTile p P q v n u k (ix2 r l) = k0_pay28 (F := Ideal) (k0_pay24 (F := Ideal) p) (k0_pay26 (F := Ideal) p u) k0_pay27
              (Scalar.muli (Scalar.remsi (BitVec.ofNat 32 n) 4#32) 512#32) (iota Kind.tc S512x256 32 [0] iota_S512x256_d0_w32) P q (ix2 r ⟨l, hl⟩) := by
  unfold yTile
  generalize k0_pay28 (F := Ideal) (k0_pay24 (F := Ideal) p) (k0_pay26 (F := Ideal) p u) k0_pay27
              (Scalar.muli (Scalar.remsi (BitVec.ofNat 32 n) 4#32) 512#32) (iota Kind.tc S512x256 32 [0] iota_S512x256_d0_w32) P q = w
  canon_tiles x h
  · replace h1 : (l : ℕ) = 256 + (x 1 : ℕ) := h1
    omega
  · exact (congrArg w (eq_ix2 x)).trans (congrArg₂ (fun a b => w (ix2 a b)) (Fin.ext h0.symm) (Fin.ext h1.symm))

/-- and its second. -/
theorem y_conv (p : FVec Ideal S512x2688 .f32) (P : FVec Ideal S1x256x256 .bf16)
    (q : FVec Ideal S1x1x256 .f32) (v : FVec Ideal S1x3x256 .f32) (n : ℕ) (u : FVec Ideal S16x256 .f32) (k : FVec Ideal S8x256 .f32) (r l : Fin 512) (hl : ¬ (l : ℕ) < 256) :
    yTile p P q v n u k (ix2 r l) = k0_pay3 (F := Ideal) p (k0_pay31 (F := Ideal) p k)
            (k0_pay32 (F := Ideal) p k
              (View.ld (Val := Elt Ideal) (e' := .f32) v (Rect.unit (s := S1x3x256) ![0, 2, 0] ![1, 1, 256] inb_S1x3x256_S1x1x256_0_2_0))
              (View.ld (Val := Elt Ideal) (e' := .f32) v (Rect.unit (s := S1x3x256) ![0, 1, 0] ![1, 1, 256] inb_S1x3x256_S1x1x256_0_1_0)))
            (k0_pay33 (F := Ideal) (View.ld (Val := Elt Ideal) (e' := .f32) v (Rect.unit (s := S1x3x256) ![0, 0, 0] ![1, 1, 256] inb_S1x3x256_S1x1x256_0_0_0)))
            (ix2 r ⟨l - 256, by omega⟩) := by
  unfold yTile
  generalize k0_pay3 (F := Ideal) p (k0_pay31 (F := Ideal) p k)
            (k0_pay32 (F := Ideal) p k
              (View.ld (Val := Elt Ideal) (e' := .f32) v (Rect.unit (s := S1x3x256) ![0, 2, 0] ![1, 1, 256] inb_S1x3x256_S1x1x256_0_2_0))
              (View.ld (Val := Elt Ideal) (e' := .f32) v (Rect.unit (s := S1x3x256) ![0, 1, 0] ![1, 1, 256] inb_S1x3x256_S1x1x256_0_1_0)))
            (k0_pay33 (F := Ideal) (View.ld (Val := Elt Ideal) (e' := .f32) v (Rect.unit (s := S1x3x256) ![0, 0, 0] ![1, 1, 256] inb_S1x3x256_S1x1x256_0_0_0))) = w
  canon_tiles x h
  · replace h1 : (l : ℕ) = 256 + (x 1 : ℕ) := h1
    exact (congrArg w (eq_ix2 x)).trans (congrArg₂ (fun a b => w (ix2 a b)) (Fin.ext h0.symm) (Fin.ext (by show (x 1 : ℕ) = l - 256; omega)))
  · replace h1 : (l : ℕ) = (x 1 : ℕ) := h1
    omega

/-- The word of the base-two logarithm of e is a real number. -/
theorem log2e_real : ∃ y : ℝ, Ideal.ofBits .f32 0x3FB8AA3B#32 = y := by
  simp only [Ideal.ofBits, Ideal.ieee]
  norm_num
  exact ⟨_, rfl⟩

/-- The gate lanes of a block: where a cumulated gate is a real number, what the first of its three lanes holds is all of it. -/
theorem gate_lane (c : Dev nD) (t : Fin cfg0.N) (d : FVec Ideal S1x128 .f32) (u : FVec Ideal S16x256 .f32) (k : FVec Ideal S8x256 .f32)
    (hc : Comes m c t d u k) (r : Fin 512) (l : Fin 128)
    (hD : ∃ y : ℝ, DD (m ((c : Thread nD τ).loc main_arg0)) (m ((c : Thread nD τ).loc main_arg1)) (m ((c : Thread nD τ).loc main_arg2)) (m ((c : Thread nD τ).loc main_arg3)) (bt t) (512 * (t.val % 4) + r) l = y) :
    gateTile (iblk m c 0 t) (iblk m c 1 t) (iblk m c 2 t) (iblk m c 3 t) (iblk m c 4 t) d (ix2 r l)
      = if (l : ℕ) < 24 ∧ (l : ℕ) % 3 = 0 then
          -(DD (m ((c : Thread nD τ).loc main_arg0)) (m ((c : Thread nD τ).loc main_arg1)) (m ((c : Thread nD τ).loc main_arg2)) (m ((c : Thread nD τ).loc main_arg3)) (bt t) (512 * (t.val % 4) + r) l * Ideal.ofBits .f32 0x3FB8AA3B#32)
        else 0 := by
  obtain ⟨y, hy⟩ := hD
  obtain ⟨e, he⟩ := log2e_real
  have hz : ((y : EReal) * (e : EReal)) - ((y : EReal) * (e : EReal)) = 0 := by
    rw [← EReal.coe_mul, ← EReal.coe_sub, sub_self]; rfl
  unfold gateTile
  rw [pay19_at, pay18_at, pay17_at, pay15_at, gate_at m c t d u k hc]
  rw [show (∑ i ∈ Finset.range (512 * (t.val % 4) + (r + 1)), LF (m ((c : Thread nD τ).loc main_arg0)) (m ((c : Thread nD τ).loc main_arg1)) (m ((c : Thread nD τ).loc main_arg2)) (m ((c : Thread nD τ).loc main_arg3)) (bt t) i l) = y from hy]
  rw [hy, he, hz, zero_word]
  have s0 := (ld_row (iblk m c 4 t) 0 inb_S8x128_S1x128_0_0 l).trans ((sel_block m c t 0 l).trans (sel_at m c 0 l))
  have s1 := (ld_row (iblk m c 4 t) 1 inb_S8x128_S1x128_1_0 l).trans ((sel_block m c t 1 l).trans (sel_at m c 1 l))
  have s2 := (ld_row (iblk m c 4 t) 2 inb_S8x128_S1x128_2_0 l).trans ((sel_block m c t 2 l).trans (sel_at m c 2 l))
  refine (congrArg (fun w => (0 : EReal) - w) (congrArg₂ (· + ·) (congrArg₂ (· + ·) (congrArg (_ * ·) s0) (congrArg (_ * ·) s1)) (congrArg (_ * ·) s2))).trans ?_
  by_cases h : (l : ℕ) < 24 ∧ (l : ℕ) % 3 = 0
  · have e0 : (if (l : ℕ) < 24 ∧ (l : ℕ) % 3 = ((0 : Fin 8) : ℕ) then (1 : EReal) else 0) = 1 := if_pos h
    rw [e0, if_pos h]
    simp
  · have e0 : (if (l : ℕ) < 24 ∧ (l : ℕ) % 3 = ((0 : Fin 8) : ℕ) then (1 : EReal) else 0) = 0 := if_neg h
    rw [e0, if_neg h]
    simp

/-- Point `t` stores the keys of its rows with their gate lanes. -/
theorem kx_core (c : Dev nD) (t : Fin cfg0.N) (r : Fin 512) (l : Fin 1024)
    (hD : ∀ b s l, ∃ y : ℝ, DD (m ((c : Thread nD τ).loc main_arg0)) (m ((c : Thread nD τ).loc main_arg1)) (m ((c : Thread nD τ).loc main_arg2)) (m ((c : Thread nD τ).loc main_arg3)) b s l = y) :
    (outsAt0 m c t.val t.isLt).2.1 (ix2 r l)
    = FX (m ((c : Thread nD τ).loc main_arg0)) (m ((c : Thread nD τ).loc main_arg1)) (m ((c : Thread nD τ).loc main_arg2)) (m ((c : Thread nD τ).loc main_arg3)) (rowOf t r) l := by
  obtain ⟨d, u, k, hl, hc⟩ := state m c t.val t.isLt
  rw [hl.kx, kx_at, proj_at, gate_lane m c t d u k hc r _ (hD _ _ _)]
  unfold FX
  rw [seq_row, pos_row]
  rfl

/-- Where a block starts in its sequence. -/
theorem base_word : ∀ t : Fin 128, Scalar.muli (Scalar.remsi (BitVec.ofNat 32 t) 4#32) 512#32 = BitVec.ofNat 32 (512 * (t.val % 4)) := by
  decide +kernel

/-- The smaller of two small words. -/
theorem min_word (a b : ℕ) (ha : a < 2147483648) (hb : b < 2147483648) : IntOp.minsi (BitVec.ofNat 32 a) (BitVec.ofNat 32 b) = BitVec.ofNat 32 (min a b) := by
  refine BitVec.eq_of_toNat_eq ?_
  rw [WordArith.toNat_minsi_of_lt _ _ (by rw [BitVec.toNat_ofNat]; omega) (by rw [BitVec.toNat_ofNat]; omega), BitVec.toNat_ofNat, BitVec.toNat_ofNat, BitVec.toNat_ofNat]
  omega

/-- A small word is read as the number it is. -/
theorem count_word (a : ℕ) (ha : a < 2147483648) : FloatOps.sitofp (F := Ideal) .f32 (BitVec.ofNat 32 a) = ((a : ℝ) : EReal) := by
  show (((BitVec.ofNat 32 a).toInt : ℝ) : EReal) = _
  rw [BitVec.toInt_ofNat', Int.bmod_eq_of_le (by omega) (by omega)]
  norm_cast

/-- No window is longer than sixteen rows. -/
theorem wsize_le (k : Fin 256) : wsize k ≤ 16 := by
  unfold wsize
  split <;> [skip; split <;> [skip; split]] <;> omega

/-- The row number. -/
theorem iota_row (r : Fin 512) (k : Fin 256) : iota Kind.tc S512x256 32 [0] iota_S512x256_d0_w32 (ix2 r k) = BitVec.ofNat 32 r := by
  pointwise []

/-- The lanes to be pooled. -/
theorem pay24_at (p : FVec Ideal S512x2688 .f32) (r : Fin 512) (k : Fin 256) : k0_pay24 (F := Ideal) p (ix2 r k) = p (ix2 r ⟨1664 + k, by omega⟩) := by
  pointwise [k0_pay24]

/-- A tap of the convolution. -/
theorem ld_conv (v : FVec Ideal S1x3x256 .f32) (i : Fin 3) (h) (l : Fin 256) :
    View.ld (Val := Elt Ideal) (e' := .f32) v (Rect.unit (s := S1x3x256) ![0, i, 0] ![1, 1, 256] h) (ix3 0 0 l) = v (ix3 0 i l) := by
  refine congrArg v ?_
  funext a; fin_cases a <;> exact Fin.ext (by simp)

/-- Point `t` stores the pooled lanes of its rows beside the convolved ones. -/
theorem y_core (c : Dev nD) (t : Fin cfg0.N) (r l : Fin 512) : (outsAt0 m c t.val t.isLt).2.2.2.1 (ix2 r l)
    = FY (m ((c : Thread nD τ).loc main_arg0)) (m ((c : Thread nD τ).loc main_arg1)) (m ((c : Thread nD τ).loc main_arg2)) (m ((c : Thread nD τ).loc main_arg4))
        (m ((c : Thread nD τ).loc main_arg5)) (m ((c : Thread nD τ).loc main_arg6)) (rowOf t r) l := by
  obtain ⟨d, u, k, hl, hc⟩ := state m c t.val t.isLt
  rw [hl.y]
  unfold FY
  by_cases h : (l : ℕ) < 256
  · rw [y_pool _ _ _ _ _ _ _ r l h, pay28_at, dif_pos h]
    unfold FP
    rw [seq_row, pos_row]
    have hg : ((grid0.coords t 0 : ℕ)) = t.val := (idx t).2.2.2.2.2.2.2.2.2.2.2.2
    refine congrArg₂ (· * ·) (Finset.sum_congr rfl fun j _ => ?_) (scale_at m c t ⟨l, h⟩)
    refine congrArg₂ (· * ·) (congrArg₂ (· - ·) (congrArg₂ Ideal.div ?_ ?_) ?_) (pool_block m c t j ⟨l, h⟩)
    · rw [pool_sum _ u (fun n => UU (m ((c : Thread nD τ).loc main_arg0)) (m ((c : Thread nD τ).loc main_arg1)) (m ((c : Thread nD τ).loc main_arg2)) (bt t) j (512 * (t.val % 4) + n)) j (fun i => hc.u i j) ?_ r]
      · unfold win
        refine Finset.sum_congr rfl fun i hi => ?_
        have h16 := wsize_le j
        have hi' := Finset.mem_range.mp hi
        rw [if_pos (by omega), if_pos (by omega)]
        refine congrArg (UU _ _ _ _ _) ?_
        omega
      · intro r
        rw [proj_at]
        unfold UU
        rw [if_neg (by omega)]
        refine congrArg (fun s => PK _ _ _ _ s _) ?_
        show 512 * (t.val % 4) + r.val = 512 * (t.val % 4) + (16 + r.val) - 16
        omega
    · have hw := base_word ⟨t.val, t.isLt⟩
      rw [window_at, iota_row, hg]
      rw [show Scalar.muli (Scalar.remsi (BitVec.ofNat 32 t.val) 4#32) 512#32 = BitVec.ofNat 32 (512 * (t.val % 4)) from hw, ← BitVec.ofNat_add, ← BitVec.ofNat_add,
        min_word _ _ (by omega) (by have := wsize_le j; omega), count_word _ (by have := wsize_le j; omega)]
    · rw [pay24_at, proj_at]
      rfl
  · rw [y_conv _ _ _ _ _ _ _ r l h, dif_neg h]
    unfold FC
    rw [seq_row, pos_row]
    rw [conv_at _ k _ _ _ (fun n => CC (m ((c : Thread nD τ).loc main_arg0)) (m ((c : Thread nD τ).loc main_arg1)) (m ((c : Thread nD τ).loc main_arg2)) (bt t) ⟨l - 256, by omega⟩ (512 * (t.val % 4) + n)) ⟨l - 256, by omega⟩ (fun i => hc.k i _) ?_ r]
    · have s0 := (ld_conv (iblk m c 7 t) 0 inb_S1x3x256_S1x1x256_0_0_0 ⟨l - 256, by omega⟩).trans (conv_w_at m c t 0 _)
      have s1 := (ld_conv (iblk m c 7 t) 1 inb_S1x3x256_S1x1x256_0_1_0 ⟨l - 256, by omega⟩).trans (conv_w_at m c t 1 _)
      have s2 := (ld_conv (iblk m c 7 t) 2 inb_S1x3x256_S1x1x256_0_2_0 ⟨l - 256, by omega⟩).trans (conv_w_at m c t 2 _)
      have e : ∀ n : ℕ, 512 * (t.val % 4) + (n + r) = n + (512 * (t.val % 4) + r) := fun n => by omega
      refine congrArg₂ (· * ·) (proj_at m c t r _) (congrArg₂ (· + ·) (congrArg₂ (· + ·) (congrArg₂ (· * ·) s2 ?_) (congrArg₂ (· * ·) s1 ?_)) (congrArg₂ (· * ·) s0 ?_))
      · exact congrArg (CC _ _ _ _ _) (e 8)
      · exact congrArg (CC _ _ _ _ _) (e 7)
      · exact congrArg (CC _ _ _ _ _) (e 6)
    · intro r
      rw [proj_at, proj_at]
      unfold CC
      rw [if_neg (by omega)]
      refine congrArg (fun s => PK _ _ _ _ s _ * PK _ _ _ _ s _) ?_
      show 512 * (t.val % 4) + r.val = 512 * (t.val % 4) + (8 + r.val) - 8
      omega

/-- The result arrays after the run: the queries, -/
theorem res8 (c : Dev nD) : (dats m 0 c).arrAt 8 (cfgs 0).N
    = fun j => FQ (m ((c : Thread nD τ).loc main_arg0)) (m ((c : Thread nD τ).loc main_arg1)) (m ((c : Thread nD τ).loc main_arg2)) (j 0) (j 1) := by
  refine (dats m 0 c).arrAt_eq_of_covers 8 _ (by decide +kernel) fun t _ y => ?_
  blk_simp
  rw [after0_8]
  refine (congrArg _ (eq_ix2 y)).trans ((q_core m c t (y 0) (y 1)).trans (congrArg₂ (FQ _ _ _) (Fin.ext ?_) (Fin.ext ?_)))
  · show t.val * 512 + (y 0 : ℕ) = _
    blk_simp [idx t] <;> try omega
  · blk_simp [idx t] <;> try omega

/-- the keys beside their gate lanes, -/
theorem res9 (c : Dev nD)
    (hD : ∀ b s l, ∃ y : ℝ, DD (m ((c : Thread nD τ).loc main_arg0)) (m ((c : Thread nD τ).loc main_arg1)) (m ((c : Thread nD τ).loc main_arg2)) (m ((c : Thread nD τ).loc main_arg3)) b s l = y) : (dats m 0 c).arrAt 9 (cfgs 0).N
    = fun j => FX (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_covers 9 _ (by decide +kernel) fun t _ y => ?_
  blk_simp
  rw [after0_9]
  refine (congrArg _ (eq_ix2 y)).trans ((kx_core m c t (y 0) (y 1) hD).trans (congrArg₂ (FX _ _ _ _) (Fin.ext ?_) (Fin.ext ?_)))
  · show t.val * 512 + (y 0 : ℕ) = _
    blk_simp [idx t] <;> try omega
  · blk_simp [idx t] <;> try omega

/-- the values, -/
theorem res10 (c : Dev nD) : (dats m 0 c).arrAt 10 (cfgs 0).N
    = fun j => FV (m ((c : Thread nD τ).loc main_arg0)) (m ((c : Thread nD τ).loc main_arg1)) (m ((c : Thread nD τ).loc main_arg2)) (j 0) (j 1) := by
  refine (dats m 0 c).arrAt_eq_of_covers 10 _ (by decide +kernel) fun t _ y => ?_
  blk_simp
  rw [after0_10]
  refine (congrArg _ (eq_ix2 y)).trans ((v_core m c t (y 0) (y 1)).trans (congrArg₂ (FV _ _ _) (Fin.ext ?_) (Fin.ext ?_)))
  · show t.val * 512 + (y 0 : ℕ) = _
    blk_simp [idx t] <;> try omega
  · blk_simp [idx t] <;> try omega

/-- the pooled lanes beside the convolved ones. -/
theorem res11 (c : Dev nD) : (dats m 0 c).arrAt 11 (cfgs 0).N
    = fun j => FY (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (j 0) (j 1) := by
  refine (dats m 0 c).arrAt_eq_of_covers 11 _ (by decide +kernel) fun t _ y => ?_
  blk_simp
  rw [after0_11]
  refine (congrArg _ (eq_ix2 y)).trans ((y_core m c t (y 0) (y 1)).trans (congrArg₂ (FY _ _ _ _ _ _) (Fin.ext ?_) (Fin.ext ?_)))
  · show t.val * 512 + (y 0 : ℕ) = _
    blk_simp [idx t] <;> try omega
  · blk_simp [idx t] <;> try omega

end Cert.MixInIdeal.Value
-- ==== Proof.MixInReal.lean ====
/-
  Which of the sub-layer's numbers are real numbers: from real rows, scales, weights and biases, the projection, the
  log-sigmoids and their running sums.
-/
module

public import proofs.«01_k».proof.Proof.MixInValue

@[expose] public section

set_option maxRecDepth 16384

noncomputable section

open Idealize.ShloMosaic Idealize.ShloMosaic.TcCoe Idealize.SL.Sem

namespace Cert.MixInIdeal.Value

open Cert.MixInIdeal Cert.MixInIdeal.Gen

/-- An extended real that is a real number. -/
def IsReal (x : EReal) : Prop := ∃ y : ℝ, x = y

/-- Zero is one, -/
theorem IsReal.zero : IsReal 0 := ⟨0, rfl⟩

/-- a sum of two, -/
theorem IsReal.add {x y : EReal} : IsReal x → IsReal y → IsReal (x + y) := by
  rintro ⟨a, rfl⟩ ⟨b, rfl⟩
  exact ⟨a + b, (EReal.coe_add a b).symm⟩

/-- a product of two, -/
theorem IsReal.mul {x y : EReal} : IsReal x → IsReal y → IsReal (x * y) := by
  rintro ⟨a, rfl⟩ ⟨b, rfl⟩
  exact ⟨a * b, (EReal.coe_mul a b).symm⟩

/-- and any finite sum. -/
theorem IsReal.sum {ι : Type} (t : Finset ι) (f : ι → EReal) (h : ∀ i, IsReal (f i)) : IsReal (∑ i ∈ t, f i) := by
  classical
  induction t using Finset.induction_on with
  | empty => simpa using IsReal.zero
  | insert a s ha ih => rw [Finset.sum_insert ha]; exact (h a).add ih

/-- A finite sum of squares of real numbers is a real number that is not negative. -/
theorem squares {ι : Type} (t : Finset ι) (f : ι → EReal) (h : ∀ i, IsReal (f i)) : ∃ y : ℝ, 0 ≤ y ∧ ∑ i ∈ t, f i * f i = y := by
  classical
  induction t using Finset.induction_on with
  | empty => exact ⟨0, le_rfl, by simp⟩
  | insert a s ha ih =>
    obtain ⟨y, hy, e⟩ := ih
    obtain ⟨r, hr⟩ := h a
    refine ⟨r * r + y, add_nonneg (mul_self_nonneg r) hy, ?_⟩
    rw [Finset.sum_insert ha, e, hr, EReal.coe_add, EReal.coe_mul]

/-- The word the sum of squares is divided by is 1024, -/
theorem word_1024 : Ideal.ofBits .f32 0x44800000#32 = ((1024 : ℝ) : EReal) := by
  simp [Ideal.ofBits, Ideal.ieee]
  rw [← EReal.coe_mul]
  norm_num

/-- and the word added is positive. -/
theorem word_eps : ∃ e : ℝ, 0 < e ∧ Ideal.ofBits .f32 0x358637BD#32 = e := by
  simp only [Ideal.ofBits, Ideal.ieee]
  norm_num
  refine ⟨_, ?_, rfl⟩
  rw [if_neg (by decide)]
  positivity

/-- The scale of a row of real numbers is a real number. -/
theorem scale_real (f : Fin 1024 → EReal) (h : ∀ i, IsReal (f i)) :
    IsReal (Ideal.rsqrt (Ideal.div (∑ k, f k * f k) (Ideal.ofBits .f32 0x44800000#32) + Ideal.ofBits .f32 0x358637BD#32)) := by
  obtain ⟨y, hy, e⟩ := squares Finset.univ f h
  obtain ⟨p, hp, e2⟩ := word_eps
  have h3 : Ideal.div (y : EReal) ((1024 : ℝ) : EReal) = ((y * (1024 : ℝ)⁻¹ : ℝ) : EReal) := by
    rw [Ideal.div, if_neg (by norm_cast), ← EReal.coe_inv, ← EReal.coe_mul]
  have h4 : 0 < y * (1024 : ℝ)⁻¹ + p := by positivity
  rw [e, e2, word_1024, h3, ← EReal.coe_add]
  refine ⟨(Real.sqrt (y * (1024 : ℝ)⁻¹ + p))⁻¹, ?_⟩
  show (if y * (1024 : ℝ)⁻¹ + p < 0 then (⊥ : EReal) else if y * (1024 : ℝ)⁻¹ + p = 0 then ⊤ else _) = _
  rw [if_neg (by linarith), if_neg (by linarith)]

/-- The logarithm of one plus an exponential of a real number is a real number. -/
theorem log1p_real (r : ℝ) : IsReal (Ideal.log1p (Ideal.exp r)) := by
  have h : 0 < 1 + Real.exp r := by positivity
  refine ⟨Real.log (1 + Real.exp r), ?_⟩
  show Ideal.log (1 + ((Real.exp r : ℝ) : EReal)) = _
  rw [← EReal.coe_one, ← EReal.coe_add]
  show (if 1 + Real.exp r ≤ 0 then (⊥ : EReal) else _) = _
  rw [if_neg (by linarith)]

/-- The larger of two real numbers, -/
theorem coe_max (a b : ℝ) : ((max a b : ℝ) : EReal) = max (a : EReal) b := EReal.coe_strictMono.monotone.map_max

/-- and the smaller. -/
theorem coe_min (a b : ℝ) : ((min a b : ℝ) : EReal) = min (a : EReal) b := EReal.coe_strictMono.monotone.map_min

/-- The log-sigmoid of a real number is a real number, -/
theorem lsig_real {x : EReal} (h : IsReal x) : IsReal (lsig x) := by
  obtain ⟨r, rfl⟩ := h
  have e : (0 : EReal) - max (r : EReal) (-(r : EReal)) = ((0 - max r (-r) : ℝ) : EReal) := by
    rw [EReal.coe_sub, coe_max, EReal.coe_neg, EReal.coe_zero]
  obtain ⟨y, hy⟩ := log1p_real (0 - max r (-r))
  refine ⟨min r 0 - y, ?_⟩
  rw [lsig, e, hy, EReal.coe_sub, coe_min, EReal.coe_zero]

/-- and it is minus the softplus of minus the number. -/
theorem softplus {x : EReal} (h : IsReal x) : -(max (-x) 0 + Ideal.log1p (Ideal.exp (-(max (-x) (-(-x)))))) = lsig x := by
  obtain ⟨r, rfl⟩ := h
  have e : -(max (-(r : EReal)) (-(-(r : EReal)))) = ((0 - max r (-r) : ℝ) : EReal) := by
    rw [EReal.coe_sub, coe_max, EReal.coe_neg, EReal.coe_zero, neg_neg, max_comm, zero_sub]
  have e' : (0 : EReal) - max (r : EReal) (-(r : EReal)) = ((0 - max r (-r) : ℝ) : EReal) := by
    rw [EReal.coe_sub, coe_max, EReal.coe_neg, EReal.coe_zero]
  obtain ⟨y, hy⟩ := log1p_real (0 - max r (-r))
  rw [lsig, e, e', hy, ← EReal.coe_neg, ← EReal.coe_zero, ← coe_max, ← EReal.coe_add, ← coe_min, ← EReal.coe_sub, ← EReal.coe_neg]
  refine congrArg Real.toEReal ?_
  rw [neg_add, ← min_neg_neg, neg_neg, neg_zero]
  rfl

variable (X : FVec Ideal S32x2048x1024 .f32) (G : FVec Ideal S4x1024 .f32) (W : FVec Ideal S4x1024x2568 .f32) (B : FVec Ideal S4x8 .f32)

/-- A lane of the projection is a real number, -/
theorem pk_real (hX : ∀ i, IsReal (X i)) (hG : ∀ i, IsReal (G i)) (hW : ∀ i, IsReal (W i)) (b : Fin 32) (s : ℕ) (l : Fin 2688) :
    IsReal (PK X G W b s l) := by
  unfold PK
  refine IsReal.sum _ _ fun k => (((hX _).mul (scale_real _ fun i => hX _)).mul (hG _)).mul ?_
  rw [wide_at]
  split
  · exact IsReal.zero
  · exact hW _

/-- and so is a cumulated gate. -/
theorem dd_real (hX : ∀ i, IsReal (X i)) (hG : ∀ i, IsReal (G i)) (hW : ∀ i, IsReal (W i)) (hB : ∀ i, IsReal (B i)) (b : Fin 32) (s : ℕ) (l : Fin 128) :
    IsReal (DD X G W B b s l) := by
  refine IsReal.sum _ _ fun k => lsig_real ((pk_real X G W hX hG hW _ _ _).add ?_)
  rw [bias_at]
  split
  · exact hB _
  · exact IsReal.zero

end Cert.MixInIdeal.Value

end
-- ==== Proof.MixInMatch.lean ====
/-
  The reference's four results are the kernel's, as functions of the arguments.
-/
module

public import proofs.«01_k».proof.Proof.MixInKeys
public import proofs.«01_k».proof.Proof.MixInReal

@[expose] public section

set_option maxRecDepth 16384

noncomputable section

open Idealize.ShloMosaic Idealize.ShloMosaic.TcCoe Idealize.SL.Sem

namespace Cert.MixInRefIdeal.Mix

open Cert.MixInRefIdeal Cert.MixInRefIdeal.Gen
open Cert.MixInIdeal.Value (PK WIDE wide_at src FQ FV FX FY FP FC UU CC DD LF lsig seqOf win wsize BLOCKS BIAS bias_at IsReal)

variable (X : FVec Ideal S32x2048x1024 .f32) (G : FVec Ideal S4x1024 .f32) (W : FVec Ideal S4x1024x2568 .f32) (B : FVec Ideal S4x8 .f32)
variable (A : FVec Ideal S4x4x64x64 .f32) (Q : FVec Ideal S4x256 .f32) (V : FVec Ideal S4x3x256 .f32)

/-- A lane of the kernel's widened projection is the reference's lane it was copied from. -/
theorem pk_proj (b : Fin 32) (s : ℕ) (hs : s < 2048) (l : Fin 2688) (hl : ¬ (1560 ≤ (l : ℕ) ∧ (l : ℕ) < 1664)) (j : Fin 2568)
    (hj : (j : ℕ) = src l) : PK X G W b s l = PROJ X G W (ix3 b ⟨s, hs⟩ j) := by
  have e : (⟨s % 2048, by omega⟩ : Fin 2048) = ⟨s, hs⟩ := Fin.ext (Nat.mod_eq_of_lt hs)
  obtain rfl : j = src l := Fin.ext hj
  rw [proj_at, PK, e]
  refine Finset.sum_congr rfl fun k _ => ?_
  rw [wide_at, if_neg hl]

/-- Below the gates the lanes stand where they stood, -/
theorem pk_low (b : Fin 32) (s : ℕ) (hs : s < 2048) (l : Fin 2688) (hl : (l : ℕ) < 1536) :
    PK X G W b s l = PROJ X G W (ix3 b ⟨s, hs⟩ ⟨l, by omega⟩) :=
  pk_proj X G W b s hs l (by omega) _ (by show (l : ℕ) = if _ then _ else _; rw [if_pos hl])

/-- and above them 120 lanes further. -/
theorem pk_high (b : Fin 32) (s : ℕ) (hs : s < 2048) (l : Fin 2688) (hl : 1664 ≤ (l : ℕ)) (j : Fin 2568) (hj : (j : ℕ) = l - 120) :
    PK X G W b s l = PROJ X G W (ix3 b ⟨s, hs⟩ j) :=
  pk_proj X G W b s hs l (by omega) _ (by show (j : ℕ) = if _ then _ else if _ then _ else _; rw [if_neg (by omega), if_neg (by omega), hj])

/-- The queries agree, -/
theorem q_point  (n : Fin 65536) (l : Fin 512) :
    RQ (PROJ X G W) (ix2 n l) = FQ X G W n l := by
  refine (rq_at _ _ _).trans ?_
  rw [FQ, pk_low X G W _ _ (Nat.mod_lt _ (by norm_num)) _ (lt_of_lt_of_le l.isLt (by decide))]
  rfl

/-- everywhere. -/
theorem q_match  : RQ (PROJ X G W) = fun j => FQ X G W (j 0) (j 1) :=
  funext fun j => (congrArg _ (eq_ix2 j)).trans (q_point X G W (j 0) (j 1))

/-- the values, -/
theorem v_point  (n : Fin 65536) (l : Fin 512) :
    RV (PROJ X G W) (ix2 n l) = FV X G W n l := by
  refine (rv_at _ _ _).trans ?_
  rw [FV, pk_low X G W _ _ (Nat.mod_lt _ (by norm_num)) _ (by show 1024 + (l : ℕ) < 1536; omega)]
  rfl

/-- everywhere. -/
theorem v_match  : RV (PROJ X G W) = fun j => FV X G W (j 0) (j 1) :=
  funext fun j => (congrArg _ (eq_ix2 j)).trans (v_point X G W (j 0) (j 1))

/-- A running sum is a product with a row of the triangle. -/
theorem until_sum (a : ℕ → EReal) (s : Fin 2048) : ∑ t : Fin 2048, a t * UNTIL (ix2 s t) = ∑ i ∈ Finset.range (s + 1), a i := by
  have e : ∀ t : Fin 2048, a t * UNTIL (ix2 s t) = if (t : ℕ) ≤ s then a t else 0 := fun t => by
    rw [until_at]
    split <;> simp
  rw [Finset.sum_congr rfl fun t _ => e t, Fin.sum_univ_eq_sum_range (fun i => if i ≤ (s : ℕ) then a i else 0) 2048, ← Finset.sum_filter]
  refine Finset.sum_congr (Finset.ext fun i => ?_) fun _ _ => rfl
  simp only [Finset.mem_filter, Finset.mem_range]
  have := s.isLt
  omega

/-- A window's sum is a product with a row of the band. -/
theorem band_sum (a : ℕ → EReal) (w : ℕ) (hw : w ≤ 16) (s : Fin 2048) :
    ∑ t : Fin 2048, a t * BAND (BitVec.ofNat 32 w) (ix2 s t) = win (fun n => if n < 16 then 0 else a (n - 16)) w (16 + s) := by
  have hs := s.isLt
  have e : ∀ t : Fin 2048, a t * BAND (BitVec.ofNat 32 w) (ix2 s t) = if (t : ℕ) ≤ s ∧ (s : ℕ) < t + w then a t else 0 := fun t => by
    rw [band_at w hw]
    split <;> simp
  rw [Finset.sum_congr rfl fun t _ => e t, Fin.sum_univ_eq_sum_range (fun i => if i ≤ (s : ℕ) ∧ (s : ℕ) < i + w then a i else 0) 2048, ← Finset.sum_filter]
  have e2 : win (fun n => if n < 16 then 0 else a (n - 16)) w (16 + s) = ∑ i ∈ Finset.range w, if i ≤ (s : ℕ) then a (s - i) else 0 := by
    refine Finset.sum_congr rfl fun i hi => ?_
    have := Finset.mem_range.mp hi
    rw [if_pos (by omega)]
    by_cases h : i ≤ (s : ℕ)
    · rw [if_pos h]
      refine (if_neg (by omega)).trans (congrArg a ?_)
      omega
    · rw [if_neg h]
      exact if_pos (by omega)
  rw [e2, ← Finset.sum_filter]
  refine Finset.sum_nbij' (fun t => s - t) (fun i => s - i) ?_ ?_ ?_ ?_ ?_ <;> intro i hi <;>
    simp only [Finset.mem_filter, Finset.mem_range] at hi ⊢ <;> first | omega | (congr 1; omega)

/-- A head's cumulated gate is what the kernel cumulates in the first of the head's three lanes. -/
theorem dd_match (hX : ∀ i, IsReal (X i)) (hG : ∀ i, IsReal (G i)) (hW : ∀ i, IsReal (W i)) (hB : ∀ i, IsReal (B i))
    (b : Fin 32) (s : Fin 2048) (l : Fin 128) (hl : (l : ℕ) < 24) :
    ∑ t : Fin 2048, LOGS (MINUS (PROJ X G W) B) (ix3 b t ⟨l / 3, by omega⟩) * UNTIL (ix2 s t) = DD X G W B b s l := by
  rw [DD, ← until_sum]
  refine Finset.sum_congr rfl fun t _ => congrArg (· * UNTIL (ix2 s t)) ?_
  have e : PK X G W b t ⟨1536 + l, by omega⟩ = PROJ X G W (ix3 b t ⟨1536 + l / 3, by omega⟩) :=
    pk_proj X G W b t t.isLt _ (by show ¬ (1560 ≤ 1536 + (l : ℕ) ∧ _); omega) _
      (by show 1536 + (l : ℕ) / 3 = if _ then _ else if _ then _ else _
          rw [if_neg (by show ¬ 1536 + (l : ℕ) < 1536; omega), if_pos (by show 1536 + (l : ℕ) < 1560; omega)]
          show _ = 1536 + (1536 + (l : ℕ) - 1536) / 3
          omega)
  have r := Cert.MixInIdeal.Value.pk_real X G W hX hG hW b t ⟨1536 + l, by omega⟩
  rw [logs_at, minus_at, LF, bias_at, dif_pos hl, ← Cert.MixInIdeal.Value.softplus (r.add (hB _)), e]

/-- The keys with their gate lanes agree where the arguments are real numbers, -/
theorem k_point (hX : ∀ i, IsReal (X i)) (hG : ∀ i, IsReal (G i)) (hW : ∀ i, IsReal (W i)) (hB : ∀ i, IsReal (B i)) (n : Fin 65536) (l : Fin 1024) :
    RK (PROJ X G W) B (ix2 n l) = FX X G W B n l := by
  refine (pairs_at _ _ _ _).trans ?_
  rw [FX]
  by_cases h1 : (l : ℕ) / 128 % 2 = 0
  · rw [if_pos h1, if_pos h1, pk_low X G W _ _ (Nat.mod_lt _ (by norm_num)) _ (by show 512 + ((l : ℕ) / 256 * 128 + (l : ℕ) % 128) < 1536; omega)]
    rfl
  · rw [if_neg h1, if_neg h1, gates_at]
    by_cases h2 : (l : ℕ) % 128 < 24 ∧ (l : ℕ) % 128 % 3 = 0
    · refine (dif_pos h2).trans ?_
      rw [if_pos h2, decay_at]
      exact congrArg (fun x => -(x * Ideal.ofBits .f32 0x3FB8AA3B#32)) (dd_match X G W B hX hG hW hB _ ⟨(n : ℕ) % 2048, Nat.mod_lt _ (by norm_num)⟩ ⟨(l : ℕ) % 128, Nat.mod_lt _ (by norm_num)⟩ h2.1)
    · exact (dif_neg h2).trans (if_neg h2).symm

/-- everywhere. -/
theorem k_match (hX : ∀ i, IsReal (X i)) (hG : ∀ i, IsReal (G i)) (hW : ∀ i, IsReal (W i)) (hB : ∀ i, IsReal (B i)) : RK (PROJ X G W) B = fun j => FX X G W B (j 0) (j 1) :=
  funext fun j => (congrArg _ (eq_ix2 j)).trans (k_point X G W B hX hG hW hB (j 0) (j 1))

/-- The pooling of 64 lanes, given them as sequences. -/
theorem pool_step (U : FVec Ideal S32x2048x64 .f32) (w : ℕ) (hw : w ≤ 16) (M : FVec Ideal S64x64 .f32) (b : Fin 32) (s : Fin 2048) (l : Fin 64)
    (a : Fin 64 → ℕ → EReal) (ha : ∀ k (t : Fin 2048), U (ix3 b t k) = a k t) :
    POOL U (BitVec.ofNat 32 w) M (ix3 b s l) = ∑ k : Fin 64, (Ideal.div (win (fun n => if n < 16 then 0 else a k (n - 16)) w (16 + s))
      ((min (s + 1) w : ℕ) : ℝ) - a k s) * M (ix2 k l) := by
  have hs := s.isLt
  have e : IntOp.addi (BitVec.ofNat 32 (s : ℕ)) 1#32 = BitVec.ofNat 32 (s + 1) := (BitVec.ofNat_add _ _).symm
  rw [rpool_at, e, Cert.MixInIdeal.Value.min_word _ _ (by omega) (by omega), Cert.MixInIdeal.Value.count_word _ (by omega)]
  refine Finset.sum_congr rfl fun k _ => ?_
  rw [← band_sum (a k) w hw s, ha k s, Finset.sum_congr rfl fun t _ => by rw [ha k t]]

/-- A sum over 256 lanes that counts one group's only. -/
theorem group_sum (f : Fin 256 → EReal) (g : Fin 4) : (∑ k : Fin 256, if (k / 64 : ℕ) = g then f k else 0) = ∑ k : Fin 64, f ⟨g * 64 + k, by omega⟩ := by
  rw [← Finset.sum_filter]
  symm
  refine Finset.sum_nbij' (fun k : Fin 64 => (⟨g * 64 + k, by omega⟩ : Fin 256)) (fun k : Fin 256 => (⟨k % 64, by omega⟩ : Fin 64)) ?_ ?_ ?_ ?_ ?_
  · intro k _
    simp only [Finset.mem_filter, Finset.mem_univ, true_and]
    omega
  · intro k _
    exact Finset.mem_univ _
  · intro k _
    refine Fin.ext ?_
    show (g * 64 + k : ℕ) % 64 = k
    omega
  · intro k hk
    simp only [Finset.mem_filter, Finset.mem_univ, true_and] at hk
    refine Fin.ext ?_
    show (g * 64 + k % 64 : ℕ) = k
    omega
  · intro k _
    rfl

/-- The pooled groups as the kernel's window sums. -/
theorem pools_match (g : Fin 4) (b : Fin 32) (s : Fin 2048) (l : Fin 64) : POOLS (PROJ X G W) A g (ix3 b s l)
    = ∑ k : Fin 64, (Ideal.div (win (UU X G W b ⟨g * 64 + k, by omega⟩) (wsize ⟨g * 64 + k, by omega⟩) (16 + s)) ((min (s + 1) (wsize ⟨g * 64 + k, by omega⟩) : ℕ) : ℝ)
      - PK X G W b s ⟨1664 + (g * 64 + k), by omega⟩) * A (ix4 0 g k l) := by
  have hp : POOLS (PROJ X G W) A g = POOL (GROUP (PROJ X G W) g) (BitVec.ofNat 32 (![2, 4, 8, 16] g)) (WEIGHT A g) := by
    fin_cases g <;> rfl
  have hw : ∀ g : Fin 4, ![2, 4, 8, 16] g ≤ 16 := by decide
  have hws : ∀ (g : Fin 4) (k : Fin 64), wsize ⟨g * 64 + k, by omega⟩ = ![2, 4, 8, 16] g := by decide +kernel
  rw [hp, pool_step _ _ (hw g) _ b s l (fun k t => PK X G W b t ⟨1664 + (g * 64 + k), by omega⟩) fun k t => ?_]
  · refine Finset.sum_congr rfl fun k _ => ?_
    rw [weight_at, hws g k]
    rfl
  · rw [group_at]
    exact (pk_high X G W b t t.isLt _ (by show 1664 ≤ 1664 + _; omega) _ (by show 1544 + (g * 64 + k : ℕ) = 1664 + (g * 64 + k) - 120; omega)).symm

/-- The convolution. -/
theorem conv_match (b : Fin 32) (s : Fin 2048) (l : Fin 256) : CONV (PROJ X G W) (PAD (PROJ X G W)) V (ix3 b s l)
    = PK X G W b s ⟨1920 + l, by omega⟩ * ((V (ix3 0 2 l) * CC X G W b l (8 + s) + V (ix3 0 1 l) * CC X G W b l (7 + s)) + V (ix3 0 0 l) * CC X G W b l (6 + s)) := by
  have hs := s.isLt
  have e : ∀ t : Fin 2050, PAD (PROJ X G W) (ix3 b t l) = CC X G W b l (6 + t) := fun t => by
    have ht := t.isLt
    rw [pad_at, CC]
    by_cases h : (t : ℕ) < 2
    · rw [dif_pos h, if_pos (by omega)]
      exact Cert.MixInIdeal.Value.zero_word
    · rw [dif_neg h, if_neg (by omega), pk_high X G W b (6 + t - 8) (by omega) _ (by show 1664 ≤ 2176 + (l : ℕ); omega) ⟨2056 + l, by omega⟩ (by show 2056 + (l : ℕ) = 2176 + l - 120; omega),
        pk_high X G W b (6 + t - 8) (by omega) _ (by show 1664 ≤ 2432 + (l : ℕ); omega) ⟨2312 + l, by omega⟩ (by show 2312 + (l : ℕ) = 2432 + l - 120; omega)]
      rw [show (⟨6 + (t : ℕ) - 8, by omega⟩ : Fin 2048) = ⟨t - 2, by omega⟩ from Fin.ext (by show 6 + (t : ℕ) - 8 = t - 2; omega)]
  rw [conv_at, e, e, e, pk_high X G W b s hs _ (by show 1664 ≤ 1920 + (l : ℕ); omega) ⟨1800 + l, by omega⟩ (by show 1800 + (l : ℕ) = 1920 + l - 120; omega)]
  refine congrArg₂ (· * ·) rfl ?_
  show V (ix3 0 0 l) * CC X G W b l (6 + s) + V (ix3 0 1 l) * CC X G W b l (6 + (1 + s)) + V (ix3 0 2 l) * CC X G W b l (6 + (2 + s)) = _
  rw [show 6 + (1 + (s : ℕ)) = 7 + s by omega, show 6 + (2 + (s : ℕ)) = 8 + s by omega, add_comm (_ + _) (V (ix3 0 2 l) * _), add_comm (V (ix3 0 0 l) * _), add_assoc]

/-- and the pooled averages beside the convolution agree. -/
theorem y_point  (n : Fin 65536) (l : Fin 512) :
    RY (PROJ X G W) A Q V (ix2 n l) = FY X G W A Q V n l := by
  refine (join_at _ _ _ _ _).trans ?_
  rw [FY]
  by_cases h1 : (l : ℕ) < 256
  · refine (dif_pos h1).trans (Eq.trans ?_ (dif_pos h1).symm)
    rw [FP]
    refine congrArg (· * Q (ix2 0 ⟨(l : ℕ), h1⟩)) ?_
    have e : (⟨(l : ℕ), h1⟩ : Fin 256) = ⟨((⟨(l : ℕ) / 64, by omega⟩ : Fin 4) : ℕ) * 64 + ((⟨(l : ℕ) % 64, by omega⟩ : Fin 64) : ℕ), by show (l : ℕ) / 64 * 64 + (l : ℕ) % 64 < 256; omega⟩ :=
      Fin.ext (by show (l : ℕ) = (l : ℕ) / 64 * 64 + (l : ℕ) % 64; omega)
    refine (congrArg (fun x => BESIDE _ _ _ _ (ix3 _ _ x)) e).trans ((beside_at (POOLS (PROJ X G W) A) _ _ _ _).trans ?_)
    rw [pools_match]
    refine Eq.trans ?_ ((group_sum (fun k => (Ideal.div (win (UU X G W (seqOf n) k) (wsize k) (16 + (n : ℕ) % 2048)) ((min ((n : ℕ) % 2048 + 1) (wsize k) : ℕ) : ℝ)
      - PK X G W (seqOf n) ((n : ℕ) % 2048) ⟨1664 + k, by omega⟩) * A (ix4 0 ⟨(l : ℕ) / 64, by omega⟩ ⟨k % 64, by omega⟩ ⟨(l : ℕ) % 64, by omega⟩)) ⟨(l : ℕ) / 64, by omega⟩).symm.trans ?_)
    · refine Finset.sum_congr rfl fun k _ => ?_
      have hk : (⟨((l : ℕ) / 64 * 64 + k) % 64, by omega⟩ : Fin 64) = k := Fin.ext (by show ((l : ℕ) / 64 * 64 + k) % 64 = k; omega)
      show _ = _ * A (ix4 0 _ ⟨((l : ℕ) / 64 * 64 + k) % 64, _⟩ _)
      rw [hk]
      rfl
    · refine Finset.sum_congr rfl fun k _ => ?_
      rw [Cert.MixInIdeal.Value.pool_at]
      split
      · rfl
      · rw [mul_zero]
  · refine (dif_neg h1).trans (Eq.trans ?_ (dif_neg h1).symm)
    rw [FC]
    exact conv_match X G W V _ ⟨(n : ℕ) % 2048, Nat.mod_lt _ (by norm_num)⟩ _

/-- everywhere. -/
theorem y_match  : RY (PROJ X G W) A Q V = fun j => FY X G W A Q V (j 0) (j 1) :=
  funext fun j => (congrArg _ (eq_ix2 j)).trans (y_point X G W A Q V (j 0) (j 1))

end Cert.MixInRefIdeal.Mix

end
-- ==== Proof.MixInRun.lean ====
/-
  What the run of the reference leaves in its four results, named.
-/
module

public import proofs.«01_k».proof.Proof.MixInKeys

@[expose] public section

set_option maxRecDepth 16384

noncomputable section

open Idealize.ShloMosaic Idealize.ShloMosaic.TcCoe Idealize.SL.Sem

namespace Cert.MixInRefIdeal.Mix

open Cert.MixInRefIdeal Cert.MixInRefIdeal.Gen

/-- The projection of a memory's arguments on a device. -/
abbrev projOf (m : (ℓ : Loc nD τ sig) → Buf (Elt Ideal) ℓ) (c : Dev nD) : FVec Ideal S32x2048x2568 .f32 :=
  PROJ (m ((c.tc : Thread nD τ).loc main_arg0)) (m ((c.tc : Thread nD τ).loc main_arg1)) (m ((c.tc : Thread nD τ).loc main_arg2))

/-- The reference leaves the queries, the keys with their gates, the values, and the pooled averages beside the convolution,
    and its arguments as they were. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v196) = RQ (projOf m c)
      ∧ r.2.mem ((c.tc : Thread nD τ).loc main_v198) = RK (projOf m c) (m ((c.tc : Thread nD τ).loc main_arg3))
      ∧ r.2.mem ((c.tc : Thread nD τ).loc main_v200) = RV (projOf m c)
      ∧ r.2.mem ((c.tc : Thread nD τ).loc main_v202)
        = RY (projOf m c) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1, (h c).2.1, (h c).2.2.1, (h c).2.2.2.1, (h c).2.2.2.2⟩) (Cert.MixInRefIdeal.Value.run (F := Ideal) m ρ)

end Cert.MixInRefIdeal.Mix

end
-- ==== Proof.MixInClaims.lean ====
/-
  The claims about the sub-layer's inputs: the programs run and leave their arguments as they were, with every counter back
  at zero; the idealized kernel is the printed one; and from real arguments kernel and reference end, as extended reals, with
  the same four arrays.
-/
module

public import proofs.«01_k».proof.Defs
public import proofs.«01_k».proof.Proof.Gen.MixIn.Frame
public import proofs.«01_k».proof.Proof.Gen.MixInIdeal.Frame
public import proofs.«01_k».proof.Proof.Gen.MixInRefIdeal.Run
public import proofs.«01_k».proof.Proof.MixInFinite
public import proofs.«01_k».proof.Proof.MixInMatch
public import proofs.«01_k».proof.Proof.MixInRun
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.MixInClaims

open Cert.MixInRefIdeal.Mix

/-- The printed call runs and leaves its arguments unchanged. -/
theorem frame_p : Cert.quiescent_MixIn := fun m ρ _ => Cert.MixIn.Gen.frame m ρ
/-- So does its idealization, -/
theorem frame_pi : Cert.quiescent_MixInIdeal := fun m ρ _ => Cert.MixInIdeal.Gen.frame m ρ
/-- and so does the reference. -/
theorem frame_ri : Cert.quiescent_MixInRefIdeal := fun m ρ _ =>
  (θ_run Cert.MixInRefIdeal.defs _ _).mono (fun r h => ⟨fun c => (h c).2.2.2.2, sem_eq_zero_of_no_sems (by decide) r.2⟩)
    (Cert.MixInRefIdeal.Value.run (F := Ideal) m ρ)
/-- From real arguments in particular the idealization runs, -/
theorem frame_pi_pre : Cert.quiescent_MixInIdeal_pre_real := fun m ρ _ => Cert.MixInIdeal.Gen.frame m ρ
/-- and the reference. -/
theorem frame_ri_pre : Cert.quiescent_MixInRefIdeal_pre_real := fun m ρ _ => frame_ri m ρ trivial
/-- The idealization replaced nothing. -/
theorem preserves : Cert.preserves_MixIn_MixInIdeal := trivial

section
open Cert.MixInIdeal Cert.MixInIdeal.Gen Cert.MixInIdeal.Value

/-- The kernel leaves the four arrays, where its cumulated gates are real numbers, and its arguments as they were. -/
theorem run_kernel (m : (ℓ : Loc nD τ sig) → Buf (Elt Ideal) ℓ) (ρ : Dev nD → PrngReg)
    (hD : ∀ (c : Dev nD) b s l, ∃ y : ℝ, DD (m ((c.tc : Thread nD τ).loc main_arg0)) (m ((c.tc : Thread nD τ).loc main_arg1)) (m ((c.tc : Thread nD τ).loc main_arg2)) (m ((c.tc : Thread nD τ).loc main_arg3)) b s l = y) :
    θ_run defs (onTc (τ := τ) (main (F := Ideal))) ⟨m, fun _ => 0, ρ⟩ fun r => ∀ c : Dev nD,
      r.2.mem ((c.tc : Thread nD τ).loc main_v28_0) = (fun j => FQ (m ((c.tc : Thread nD τ).loc main_arg0)) (m ((c.tc : Thread nD τ).loc main_arg1)) (m ((c.tc : Thread nD τ).loc main_arg2)) (j 0) (j 1))
      ∧ r.2.mem ((c.tc : Thread nD τ).loc main_v28_1) = (fun j => FX (m ((c.tc : Thread nD τ).loc main_arg0)) (m ((c.tc : Thread nD τ).loc main_arg1)) (m ((c.tc : Thread nD τ).loc main_arg2)) (m ((c.tc : Thread nD τ).loc main_arg3)) (j 0) (j 1))
      ∧ r.2.mem ((c.tc : Thread nD τ).loc main_v28_2) = (fun j => FV (m ((c.tc : Thread nD τ).loc main_arg0)) (m ((c.tc : Thread nD τ).loc main_arg1)) (m ((c.tc : Thread nD τ).loc main_arg2)) (j 0) (j 1))
      ∧ r.2.mem ((c.tc : Thread nD τ).loc main_v28_3) = (fun j => FY (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(post8 m r h c).trans (res8 m c), (post9 m r h c).trans (res9 m c (hD c)),
      (post10 m r h c).trans (res10 m c), (post11 m r h c).trans (res11 m c), kept_main_arg0 m r h c, kept_main_arg1 m r h c,
      kept_main_arg2 m r h c, kept_main_arg3 m r h c, kept_main_arg4 m r h c, kept_main_arg5 m r h c, kept_main_arg6 m r h c⟩)
    (run_main m ρ)

end

/-- From real arguments kernel and reference end with the same four arrays. -/
theorem algebraic : Cert.algebraic_MixInIdeal_MixInRefIdeal_pre_real := by
  intro m g m' g' hpre hagree
  have hr := fun c => MixInFinite.real_args _ _ _ _ _ _ _ (hpre c)
  refine ⟨_, _, _, _, run_kernel m g fun c => Cert.MixInIdeal.Value.dd_real _ _ _ _ (hr c).1 (hr c).2.1 (hr c).2.2.1 (hr c).2.2.2, ?_⟩
  refine (θ_run _ _ _).mono (fun r h c => ?_) (run_ref m' g')
  obtain ⟨h0, h1, h2, h3, h4⟩ := h c
  obtain ⟨a0, a1, a2, a3, a4, a5, a6⟩ := hagree c
  refine ⟨h0.trans ?_, h1.trans ?_, h2.trans ?_, h3.trans ?_, h4⟩
  · rw [projOf, a0, a1, a2]
    exact q_match _ _ _
  · rw [projOf, a0, a1, a2, a3]
    exact k_match _ _ _ _ (hr c).1 (hr c).2.1 (hr c).2.2.1 (hr c).2.2.2
  · rw [projOf, a0, a1, a2]
    exact v_match _ _ _
  · rw [projOf, a0, a1, a2, a4, a5, a6]
    exact y_match _ _ _ _ _ _

end Cert.Proof.MixInClaims

end
-- ==== Proof.lean ====
/- The proof of the certificate's claim, put together from the claims about each call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutRefIdeal
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormRefIdeal
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInRefIdeal
public import proofs.«01_k».proof.Proof.Gen.Pre_finite
public import proofs.«01_k».proof.Proof.Gen.Pre_real
public import proofs.«01_k».proof.Proof.DenseClaims
public import proofs.«01_k».proof.Proof.AttnClaims
public import proofs.«01_k».proof.Proof.MixInClaims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.MixOut.Gen.facts, Cert.MixOutIdeal.Gen.facts, Cert.MixOutRefIdeal.Gen.facts, Cert.FinalNorm.Gen.facts, Cert.FinalNormIdeal.Gen.facts, Cert.FinalNormRefIdeal.Gen.facts, Cert.MixIn.Gen.facts, Cert.MixInIdeal.Gen.facts, Cert.MixInRefIdeal.Gen.facts, Cert.Pre_finite.Gen.facts, Cert.Pre_real.Gen.facts,
  AttnClaims.frame_p, AttnClaims.frame_pi, AttnClaims.frame_pi_pre, AttnClaims.frame_ri, AttnClaims.frame_ri_pre,
  FfnClaims.frame_p, FfnClaims.frame_pi, FfnClaims.frame_ri,
  MixOutClaims.frame_p, MixOutClaims.frame_pi, MixOutClaims.frame_ri,
  FinalNormClaims.frame_p, FinalNormClaims.frame_pi, FinalNormClaims.frame_ri,
  MixInClaims.frame_p, MixInClaims.frame_pi, MixInClaims.frame_pi_pre, MixInClaims.frame_ri, MixInClaims.frame_ri_pre,
  AttnClaims.preserves, FfnClaims.preserves, MixOutClaims.preserves, FinalNormClaims.preserves, MixInClaims.preserves,
  AttnClaims.algebraic, FfnClaims.algebraic, MixOutClaims.algebraic, FinalNormClaims.algebraic, MixInClaims.algebraic⟩

end Cert.Proof

end
